-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![4, 512, 4096]⟩ ⟨3, ![4, 1024, 4096]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x512x4096 : Shape := ⟨3, ![4, 512, 4096]⟩
abbrev S8x128x4096 : Shape := ⟨3, ![8, 128, 4096]⟩
abbrev S2x128x16x128 : Shape := ⟨4, ![2, 128, 16, 128]⟩
abbrev S2x128x4096 : Shape := ⟨3, ![2, 128, 4096]⟩
abbrev S2 : Shape := ⟨1, ![2]⟩
abbrev S8 : Shape := ⟨1, ![8]⟩
abbrev S1 : Shape := ⟨1, ![1]⟩
abbrev S_ : Shape := ⟨0, ![]⟩
abbrev S1x128x16x128 : Shape := ⟨4, ![1, 128, 16, 128]⟩
abbrev S128x16x128 : Shape := ⟨3, ![128, 16, 128]⟩
abbrev S128x2048 : Shape := ⟨2, ![128, 2048]⟩
abbrev S128x4096 : Shape := ⟨2, ![128, 4096]⟩
abbrev S1x128x4096 : Shape := ⟨3, ![1, 128, 4096]⟩

abbrev nBuf : Space → Nat
  | .hbm => 5
  | .vmem => 4
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S4x512x4096, .f32⟩
  | .hbm, ⟨3, _⟩ => ⟨S8x128x4096, .f32⟩
  | .hbm, ⟨4, _⟩ => ⟨S8x128x4096, .f32⟩
  | .local _ .vmem, ⟨0, _⟩ => ⟨S2048x4096, .f32⟩
  | .local _ .vmem, ⟨1, _⟩ => ⟨S2x128x16x128, .f32⟩
  | .local _ .vmem, ⟨2, _⟩ => ⟨S8x128x4096, .f32⟩
  | .local _ .vmem, ⟨3, _⟩ => ⟨S2x128x4096, .f32⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32_6 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.addi c0_i32 v2
  let c128_i32 : BitVec 32 := 128#32
  let v12 : BitVec 32 := Scalar.muli v11 c128_i32
  let v13 : BitVec 32 := Scalar.addi v10 v12
  let c0_i32_12 : BitVec 32 := 0#32
  let c0_i32_13 : BitVec 32 := 0#32
  ![0, v13.toNat, 0, 0]
def k0_dev1 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v21 : BitVec 32 := Scalar.muli v2 c2_i32_15
  let v22 : BitVec 32 := Scalar.addi c0_i32_16 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v23 : BitVec 32 := Scalar.muli v6 c1_i32_17
  let v24 : BitVec 32 := Scalar.addi v22 v23
  v24.toNat
def k0_dev2 (d0 : Dev nD) : Nat :=
  let c0_i32_20 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_19 : BitVec 32 := 2#32
  let v25 : BitVec 32 := Scalar.muli v7 c2_i32_19
  let v26 : BitVec 32 := Scalar.addi c0_i32_20 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v27 : BitVec 32 := Scalar.muli v5 c1_i32_21
  let v28 : BitVec 32 := Scalar.addi v26 v27
  v28.toNat
@[reducible] def k0_t1_loop : Scf.Loop 32 :=
  let c0_i32_23 : BitVec 32 := 0#32
  let c8_i32 : BitVec 32 := 8#32
  let v29 : BitVec 32 := Scalar.addi c0_i32_23 c8_i32
  let c1_i32_24 : BitVec 32 := 1#32
  ⟨c0_i32_23, v29, c1_i32_24⟩
def k0_off2 (k0_t1 : Fin k0_t1_loop.trips) : Fin 1 → Nat :=
  let c0_i32_23 : BitVec 32 := 0#32
  let c1_i32_24 : BitVec 32 := 1#32
  let arg15 : BitVec 32 := Scf.iv c0_i32_23 c1_i32_24 k0_t1
  let c2_i32_76 : BitVec 32 := 2#32
  let c0_i32_77 : BitVec 32 := 0#32
  let v92 : BitVec 1 := Scalar.cmpi .eq c2_i32_76 c0_i32_77
  let c1_i32_78 : BitVec 32 := 1#32
  let v93 : BitVec 32 := Scalar.select v92 c1_i32_78 c2_i32_76
  let v94 : BitVec 32 := Scalar.remsi arg15 v93
  let c0_i32_80 : BitVec 32 := 0#32
  let v96 : BitVec 1 := Scalar.cmpi .slt v94 c0_i32_80
  let c0_i32_81 : BitVec 32 := 0#32
  let v97 : BitVec 1 := Scalar.cmpi .slt v93 c0_i32_81
  let v98 : BitVec 1 := Scalar.xori v96 v97
  let c0_i32_79 : BitVec 32 := 0#32
  let v95 : BitVec 1 := Scalar.cmpi .ne v94 c0_i32_79
  let v99 : BitVec 1 := Scalar.andi v98 v95
  let v100 : BitVec 32 := Scalar.addi v94 v93
  let v101 : BitVec 32 := Scalar.select v99 v100 v94
  ![v101.toNat]
def k0_off3 (k0_t1 : Fin k0_t1_loop.trips) : Fin 4 → Nat :=
  let c0_i32_23 : BitVec 32 := 0#32
  let c1_i32_24 : BitVec 32 := 1#32
  let arg15 : BitVec 32 := Scf.iv c0_i32_23 c1_i32_24 k0_t1
  let c2_i32_70 : BitVec 32 := 2#32
  let c0_i32_71 : BitVec 32 := 0#32
  let v82 : BitVec 1 := Scalar.cmpi .eq c2_i32_70 c0_i32_71
  let c1_i32_72 : BitVec 32 := 1#32
  let v83 : BitVec 32 := Scalar.select v82 c1_i32_72 c2_i32_70
  let v84 : BitVec 32 := Scalar.remsi arg15 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c0_i32_82 : BitVec 32 := 0#32
  let c0_i32_83 : BitVec 32 := 0#32
  let c0_i32_84 : BitVec 32 := 0#32
  ![v91.toNat, 0, 0, 0]
def k0_off4 (d0 : Dev nD) (k0_t1 : Fin k0_t1_loop.trips) : Fin 4 → Nat :=
  let c0_i32_23 : BitVec 32 := 0#32
  let c1_i32_24 : BitVec 32 := 1#32
  let arg15 : BitVec 32 := Scf.iv c0_i32_23 c1_i32_24 k0_t1
  let c0_i32_56 : BitVec 32 := 0#32
  let v52 : BitVec 1 := Scalar.cmpi .sgt arg15 c0_i32_56
  let v53 : BitVec 32 := Scalar.extui v52
  let c0_i32_57 : BitVec 32 := 0#32
  let v54 : BitVec 1 := Scalar.cmpi .slt arg15 c0_i32_57
  let v55 : BitVec 32 := Scalar.extui v54
  let v56 : BitVec 32 := Scalar.subi v53 v55
  let c2_i32_55 : BitVec 32 := 2#32
  let c0_i32_58 : BitVec 32 := 0#32
  let v57 : BitVec 1 := Scalar.cmpi .sgt c2_i32_55 c0_i32_58
  let v58 : BitVec 32 := Scalar.extui v57
  let c0_i32_59 : BitVec 32 := 0#32
  let v59 : BitVec 1 := Scalar.cmpi .slt c2_i32_55 c0_i32_59
  let v60 : BitVec 32 := Scalar.extui v59
  let v61 : BitVec 32 := Scalar.subi v58 v60
  let v62 : BitVec 1 := Scalar.cmpi .ne v56 v61
  let v63 : BitVec 32 := Scalar.remsi arg15 c2_i32_55
  let c0_i32_60 : BitVec 32 := 0#32
  let v64 : BitVec 1 := Scalar.cmpi .ne v63 c0_i32_60
  let v65 : BitVec 1 := Scalar.andi v62 v64
  let v51 : BitVec 32 := Scalar.divsi arg15 c2_i32_55
  let c1_i32_61 : BitVec 32 := 1#32
  let v66 : BitVec 32 := Scalar.subi v51 c1_i32_61
  let v67 : BitVec 32 := Scalar.select v65 v66 v51
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  let c2_i32_62 : BitVec 32 := 2#32
  let c0_i32_63 : BitVec 32 := 0#32
  let v68 : BitVec 1 := Scalar.cmpi .eq c2_i32_62 c0_i32_63
  let c1_i32_64 : BitVec 32 := 1#32
  let v69 : BitVec 32 := Scalar.select v68 c1_i32_64 c2_i32_62
  let v70 : BitVec 32 := Scalar.remsi arg15 v69
  let c0_i32_66 : BitVec 32 := 0#32
  let v72 : BitVec 1 := Scalar.cmpi .slt v70 c0_i32_66
  let c0_i32_67 : BitVec 32 := 0#32
  let v73 : BitVec 1 := Scalar.cmpi .slt v69 c0_i32_67
  let v74 : BitVec 1 := Scalar.xori v72 v73
  let c0_i32_65 : BitVec 32 := 0#32
  let v71 : BitVec 1 := Scalar.cmpi .ne v70 c0_i32_65
  let v75 : BitVec 1 := Scalar.andi v74 v71
  let v76 : BitVec 32 := Scalar.addi v70 v69
  let v77 : BitVec 32 := Scalar.select v75 v76 v70
  let c2_i32_68 : BitVec 32 := 2#32
  let v78 : BitVec 32 := Scalar.muli v77 c2_i32_68
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v79 : BitVec 32 := Scalar.addi v78 v2
  let c128_i32_69 : BitVec 32 := 128#32
  let v80 : BitVec 32 := Scalar.muli v79 c128_i32_69
  let v81 : BitVec 32 := Scalar.addi v10 v80
  let c0_i32_85 : BitVec 32 := 0#32
  let c0_i32_86 : BitVec 32 := 0#32
  ![v67.toNat, v81.toNat, 0, 0]
def k0_cond1 (k0_t1 : Fin k0_t1_loop.trips) : BitVec 1 :=
  let c0_i32_23 : BitVec 32 := 0#32
  let c1_i32_24 : BitVec 32 := 1#32
  let arg15 : BitVec 32 := Scf.iv c0_i32_23 c1_i32_24 k0_t1
  let c7_i32 : BitVec 32 := 7#32
  let v108 : BitVec 1 := Scalar.cmpi .slt arg15 c7_i32
  let v109 : BitVec 32 := Scalar.extui v108
  let c0_i32_87 : BitVec 32 := 0#32
  let v110 : BitVec 1 := Scalar.cmpi .ne v109 c0_i32_87
  v110

def k0_off5 (k0_t1 : Fin k0_t1_loop.trips) : Fin 1 → Nat :=
  let c0_i32_23 : BitVec 32 := 0#32
  let c1_i32_24 : BitVec 32 := 1#32
  let arg15 : BitVec 32 := Scf.iv c0_i32_23 c1_i32_24 k0_t1
  let c1_i32_109 : BitVec 32 := 1#32
  let v147 : BitVec 32 := Scalar.addi arg15 c1_i32_109
  let c2_i32_131 : BitVec 32 := 2#32
  let c0_i32_132 : BitVec 32 := 0#32
  let v189 : BitVec 1 := Scalar.cmpi .eq c2_i32_131 c0_i32_132
  let c1_i32_133 : BitVec 32 := 1#32
  let v190 : BitVec 32 := Scalar.select v189 c1_i32_133 c2_i32_131
  let v191 : BitVec 32 := Scalar.remsi v147 v190
  let c0_i32_135 : BitVec 32 := 0#32
  let v193 : BitVec 1 := Scalar.cmpi .slt v191 c0_i32_135
  let c0_i32_136 : BitVec 32 := 0#32
  let v194 : BitVec 1 := Scalar.cmpi .slt v190 c0_i32_136
  let v195 : BitVec 1 := Scalar.xori v193 v194
  let c0_i32_134 : BitVec 32 := 0#32
  let v192 : BitVec 1 := Scalar.cmpi .ne v191 c0_i32_134
  let v196 : BitVec 1 := Scalar.andi v195 v192
  let v197 : BitVec 32 := Scalar.addi v191 v190
  let v198 : BitVec 32 := Scalar.select v196 v197 v191
  ![v198.toNat]
def k0_off6 (k0_t1 : Fin k0_t1_loop.trips) : Fin 4 → Nat :=
  let c0_i32_23 : BitVec 32 := 0#32
  let c1_i32_24 : BitVec 32 := 1#32
  let arg15 : BitVec 32 := Scf.iv c0_i32_23 c1_i32_24 k0_t1
  let c1_i32_109 : BitVec 32 := 1#32
  let v147 : BitVec 32 := Scalar.addi arg15 c1_i32_109
  let c2_i32_125 : BitVec 32 := 2#32
  let c0_i32_126 : BitVec 32 := 0#32
  let v179 : BitVec 1 := Scalar.cmpi .eq c2_i32_125 c0_i32_126
  let c1_i32_127 : BitVec 32 := 1#32
  let v180 : BitVec 32 := Scalar.select v179 c1_i32_127 c2_i32_125
  let v181 : BitVec 32 := Scalar.remsi v147 v180
  let c0_i32_129 : BitVec 32 := 0#32
  let v183 : BitVec 1 := Scalar.cmpi .slt v181 c0_i32_129
  let c0_i32_130 : BitVec 32 := 0#32
  let v184 : BitVec 1 := Scalar.cmpi .slt v180 c0_i32_130
  let v185 : BitVec 1 := Scalar.xori v183 v184
  let c0_i32_128 : BitVec 32 := 0#32
  let v182 : BitVec 1 := Scalar.cmpi .ne v181 c0_i32_128
  let v186 : BitVec 1 := Scalar.andi v185 v182
  let v187 : BitVec 32 := Scalar.addi v181 v180
  let v188 : BitVec 32 := Scalar.select v186 v187 v181
  let c0_i32_137 : BitVec 32 := 0#32
  let c0_i32_138 : BitVec 32 := 0#32
  let c0_i32_139 : BitVec 32 := 0#32
  ![v188.toNat, 0, 0, 0]
def k0_off7 (d0 : Dev nD) (k0_t1 : Fin k0_t1_loop.trips) : Fin 4 → Nat :=
  let c0_i32_23 : BitVec 32 := 0#32
  let c1_i32_24 : BitVec 32 := 1#32
  let arg15 : BitVec 32 := Scf.iv c0_i32_23 c1_i32_24 k0_t1
  let c1_i32_109 : BitVec 32 := 1#32
  let v147 : BitVec 32 := Scalar.addi arg15 c1_i32_109
  let c0_i32_111 : BitVec 32 := 0#32
  let v149 : BitVec 1 := Scalar.cmpi .sgt v147 c0_i32_111
  let v150 : BitVec 32 := Scalar.extui v149
  let c0_i32_112 : BitVec 32 := 0#32
  let v151 : BitVec 1 := Scalar.cmpi .slt v147 c0_i32_112
  let v152 : BitVec 32 := Scalar.extui v151
  let v153 : BitVec 32 := Scalar.subi v150 v152
  let c2_i32_110 : BitVec 32 := 2#32
  let c0_i32_113 : BitVec 32 := 0#32
  let v154 : BitVec 1 := Scalar.cmpi .sgt c2_i32_110 c0_i32_113
  let v155 : BitVec 32 := Scalar.extui v154
  let c0_i32_114 : BitVec 32 := 0#32
  let v156 : BitVec 1 := Scalar.cmpi .slt c2_i32_110 c0_i32_114
  let v157 : BitVec 32 := Scalar.extui v156
  let v158 : BitVec 32 := Scalar.subi v155 v157
  let v159 : BitVec 1 := Scalar.cmpi .ne v153 v158
  let v160 : BitVec 32 := Scalar.remsi v147 c2_i32_110
  let c0_i32_115 : BitVec 32 := 0#32
  let v161 : BitVec 1 := Scalar.cmpi .ne v160 c0_i32_115
  let v162 : BitVec 1 := Scalar.andi v159 v161
  let v148 : BitVec 32 := Scalar.divsi v147 c2_i32_110
  let c1_i32_116 : BitVec 32 := 1#32
  let v163 : BitVec 32 := Scalar.subi v148 c1_i32_116
  let v164 : BitVec 32 := Scalar.select v162 v163 v148
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  let c2_i32_117 : BitVec 32 := 2#32
  let c0_i32_118 : BitVec 32 := 0#32
  let v165 : BitVec 1 := Scalar.cmpi .eq c2_i32_117 c0_i32_118
  let c1_i32_119 : BitVec 32 := 1#32
  let v166 : BitVec 32 := Scalar.select v165 c1_i32_119 c2_i32_117
  let v167 : BitVec 32 := Scalar.remsi v147 v166
  let c0_i32_121 : BitVec 32 := 0#32
  let v169 : BitVec 1 := Scalar.cmpi .slt v167 c0_i32_121
  let c0_i32_122 : BitVec 32 := 0#32
  let v170 : BitVec 1 := Scalar.cmpi .slt v166 c0_i32_122
  let v171 : BitVec 1 := Scalar.xori v169 v170
  let c0_i32_120 : BitVec 32 := 0#32
  let v168 : BitVec 1 := Scalar.cmpi .ne v167 c0_i32_120
  let v172 : BitVec 1 := Scalar.andi v171 v168
  let v173 : BitVec 32 := Scalar.addi v167 v166
  let v174 : BitVec 32 := Scalar.select v172 v173 v167
  let c2_i32_123 : BitVec 32 := 2#32
  let v175 : BitVec 32 := Scalar.muli v174 c2_i32_123
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v176 : BitVec 32 := Scalar.addi v175 v2
  let c128_i32_124 : BitVec 32 := 128#32
  let v177 : BitVec 32 := Scalar.muli v176 c128_i32_124
  let v178 : BitVec 32 := Scalar.addi v10 v177
  let c0_i32_140 : BitVec 32 := 0#32
  let c0_i32_141 : BitVec 32 := 0#32
  ![v164.toNat, v178.toNat, 0, 0]
def k0_cond2 (k0_t1 : Fin k0_t1_loop.trips) : BitVec 1 :=
  let c0_i32_23 : BitVec 32 := 0#32
  let c1_i32_24 : BitVec 32 := 1#32
  let arg15 : BitVec 32 := Scf.iv c0_i32_23 c1_i32_24 k0_t1
  let c7_i32_88 : BitVec 32 := 7#32
  let v111 : BitVec 1 := Scalar.cmpi .eq arg15 c7_i32_88
  let v112 : BitVec 32 := Scalar.extui v111
  let c0_i32_89 : BitVec 32 := 0#32
  let v113 : BitVec 1 := Scalar.cmpi .ne v112 c0_i32_89
  v113

def k0_off8 (d0 : Dev nD) : Fin 4 → Nat :=
  let c0_i32_111 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v147 : BitVec 32 := Scalar.addi c0_i32_109 v2
  let c128_i32_110 : BitVec 32 := 128#32
  let v148 : BitVec 32 := Scalar.muli v147 c128_i32_110
  let v149 : BitVec 32 := Scalar.addi v8 v148
  let c0_i32_117 : BitVec 32 := 0#32
  let c0_i32_118 : BitVec 32 := 0#32
  ![0, v149.toNat, 0, 0]
def k0_off9 (k0_t1 : Fin k0_t1_loop.trips) : Fin 4 → Nat :=
  let c0_i32_23 : BitVec 32 := 0#32
  let c1_i32_24 : BitVec 32 := 1#32
  let arg15 : BitVec 32 := Scf.iv c0_i32_23 c1_i32_24 k0_t1
  let c2_i32_90 : BitVec 32 := 2#32
  let c0_i32_91 : BitVec 32 := 0#32
  let v114 : BitVec 1 := Scalar.cmpi .eq c2_i32_90 c0_i32_91
  let c1_i32_92 : BitVec 32 := 1#32
  let v115 : BitVec 32 := Scalar.select v114 c1_i32_92 c2_i32_90
  let v116 : BitVec 32 := Scalar.remsi arg15 v115
  let c0_i32_94 : BitVec 32 := 0#32
  let v118 : BitVec 1 := Scalar.cmpi .slt v116 c0_i32_94
  let c0_i32_95 : BitVec 32 := 0#32
  let v119 : BitVec 1 := Scalar.cmpi .slt v115 c0_i32_95
  let v120 : BitVec 1 := Scalar.xori v118 v119
  let c0_i32_93 : BitVec 32 := 0#32
  let v117 : BitVec 1 := Scalar.cmpi .ne v116 c0_i32_93
  let v121 : BitVec 1 := Scalar.andi v120 v117
  let v122 : BitVec 32 := Scalar.addi v116 v115
  let v123 : BitVec 32 := Scalar.select v121 v122 v116
  let v124 : Index := Scalar.indexCast v123
  let c0 : Index := 0#32
  let c0_96 : Index := 0#32
  let c0_97 : Index := 0#32
  ![v124.toNat, 0, 0, 0]
def k0_off10 (k0_t1 : Fin k0_t1_loop.trips) : Fin 3 → Nat :=
  let c0_i32_23 : BitVec 32 := 0#32
  let c1_i32_24 : BitVec 32 := 1#32
  let arg15 : BitVec 32 := Scf.iv c0_i32_23 c1_i32_24 k0_t1
  let v131 : Index := Scalar.indexCast arg15
  let c0_100 : Index := 0#32
  let c0_101 : Index := 0#32
  ![v131.toNat, 0, 0]
def k0_off11 (k0_t1 : Fin k0_t1_loop.trips) : Fin 1 → Nat :=
  let c0_i32_23 : BitVec 32 := 0#32
  let c1_i32_24 : BitVec 32 := 1#32
  let arg15 : BitVec 32 := Scf.iv c0_i32_23 c1_i32_24 k0_t1
  ![arg15.toNat]
def k0_off12 (k0_t1 : Fin k0_t1_loop.trips) : Fin 3 → Nat :=
  let c0_i32_23 : BitVec 32 := 0#32
  let c1_i32_24 : BitVec 32 := 1#32
  let arg15 : BitVec 32 := Scf.iv c0_i32_23 c1_i32_24 k0_t1
  let c0_i32_105 : BitVec 32 := 0#32
  let c0_i32_106 : BitVec 32 := 0#32
  ![arg15.toNat, 0, 0]
def k0_dev3 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v135 : BitVec 32 := Scalar.muli v2 c2_i32_102
  let v136 : BitVec 32 := Scalar.addi c0_i32_103 v135
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_104 : BitVec 32 := 1#32
  let v137 : BitVec 32 := Scalar.muli v6 c1_i32_104
  let v138 : BitVec 32 := Scalar.addi v136 v137
  v138.toNat
@[reducible] def k0_t2_loop : Scf.Loop 32 :=
  let c0_i32_26 : BitVec 32 := 0#32
  let c8_i32_27 : BitVec 32 := 8#32
  let v30 : BitVec 32 := Scalar.addi c0_i32_26 c8_i32_27
  let c1_i32_28 : BitVec 32 := 1#32
  ⟨c0_i32_26, v30, c1_i32_28⟩
def k0_off13 (k0_t2 : Fin k0_t2_loop.trips) : Fin 1 → Nat :=
  let c0_i32_26 : BitVec 32 := 0#32
  let c1_i32_28 : BitVec 32 := 1#32
  let arg15 : BitVec 32 := Scf.iv c0_i32_26 c1_i32_28 k0_t2
  let c2_i32_82 : BitVec 32 := 2#32
  let c0_i32_83 : BitVec 32 := 0#32
  let v102 : BitVec 1 := Scalar.cmpi .eq c2_i32_82 c0_i32_83
  let c1_i32_84 : BitVec 32 := 1#32
  let v103 : BitVec 32 := Scalar.select v102 c1_i32_84 c2_i32_82
  let v104 : BitVec 32 := Scalar.remsi arg15 v103
  let c0_i32_86 : BitVec 32 := 0#32
  let v106 : BitVec 1 := Scalar.cmpi .slt v104 c0_i32_86
  let c0_i32_87 : BitVec 32 := 0#32
  let v107 : BitVec 1 := Scalar.cmpi .slt v103 c0_i32_87
  let v108 : BitVec 1 := Scalar.xori v106 v107
  let c0_i32_85 : BitVec 32 := 0#32
  let v105 : BitVec 1 := Scalar.cmpi .ne v104 c0_i32_85
  let v109 : BitVec 1 := Scalar.andi v108 v105
  let v110 : BitVec 32 := Scalar.addi v104 v103
  let v111 : BitVec 32 := Scalar.select v109 v110 v104
  ![v111.toNat]
def k0_off14 (k0_t2 : Fin k0_t2_loop.trips) : Fin 4 → Nat :=
  let c0_i32_26 : BitVec 32 := 0#32
  let c1_i32_28 : BitVec 32 := 1#32
  let arg15 : BitVec 32 := Scf.iv c0_i32_26 c1_i32_28 k0_t2
  let c2_i32_76 : BitVec 32 := 2#32
  let c0_i32_77 : BitVec 32 := 0#32
  let v92 : BitVec 1 := Scalar.cmpi .eq c2_i32_76 c0_i32_77
  let c1_i32_78 : BitVec 32 := 1#32
  let v93 : BitVec 32 := Scalar.select v92 c1_i32_78 c2_i32_76
  let v94 : BitVec 32 := Scalar.remsi arg15 v93
  let c0_i32_80 : BitVec 32 := 0#32
  let v96 : BitVec 1 := Scalar.cmpi .slt v94 c0_i32_80
  let c0_i32_81 : BitVec 32 := 0#32
  let v97 : BitVec 1 := Scalar.cmpi .slt v93 c0_i32_81
  let v98 : BitVec 1 := Scalar.xori v96 v97
  let c0_i32_79 : BitVec 32 := 0#32
  let v95 : BitVec 1 := Scalar.cmpi .ne v94 c0_i32_79
  let v99 : BitVec 1 := Scalar.andi v98 v95
  let v100 : BitVec 32 := Scalar.addi v94 v93
  let v101 : BitVec 32 := Scalar.select v99 v100 v94
  let c0_i32_88 : BitVec 32 := 0#32
  let c0_i32_89 : BitVec 32 := 0#32
  let c0_i32_90 : BitVec 32 := 0#32
  ![v101.toNat, 0, 0, 0]
def k0_off15 (d0 : Dev nD) (k0_t2 : Fin k0_t2_loop.trips) : Fin 4 → Nat :=
  let c0_i32_26 : BitVec 32 := 0#32
  let c1_i32_28 : BitVec 32 := 1#32
  let arg15 : BitVec 32 := Scf.iv c0_i32_26 c1_i32_28 k0_t2
  let c0_i32_62 : BitVec 32 := 0#32
  let v62 : BitVec 1 := Scalar.cmpi .sgt arg15 c0_i32_62
  let v63 : BitVec 32 := Scalar.extui v62
  let c0_i32_63 : BitVec 32 := 0#32
  let v64 : BitVec 1 := Scalar.cmpi .slt arg15 c0_i32_63
  let v65 : BitVec 32 := Scalar.extui v64
  let v66 : BitVec 32 := Scalar.subi v63 v65
  let c2_i32_61 : BitVec 32 := 2#32
  let c0_i32_64 : BitVec 32 := 0#32
  let v67 : BitVec 1 := Scalar.cmpi .sgt c2_i32_61 c0_i32_64
  let v68 : BitVec 32 := Scalar.extui v67
  let c0_i32_65 : BitVec 32 := 0#32
  let v69 : BitVec 1 := Scalar.cmpi .slt c2_i32_61 c0_i32_65
  let v70 : BitVec 32 := Scalar.extui v69
  let v71 : BitVec 32 := Scalar.subi v68 v70
  let v72 : BitVec 1 := Scalar.cmpi .ne v66 v71
  let v73 : BitVec 32 := Scalar.remsi arg15 c2_i32_61
  let c0_i32_66 : BitVec 32 := 0#32
  let v74 : BitVec 1 := Scalar.cmpi .ne v73 c0_i32_66
  let v75 : BitVec 1 := Scalar.andi v72 v74
  let v61 : BitVec 32 := Scalar.divsi arg15 c2_i32_61
  let c1_i32_67 : BitVec 32 := 1#32
  let v76 : BitVec 32 := Scalar.subi v61 c1_i32_67
  let v77 : BitVec 32 := Scalar.select v75 v76 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c2_i32_68 : BitVec 32 := 2#32
  let c0_i32_69 : BitVec 32 := 0#32
  let v78 : BitVec 1 := Scalar.cmpi .eq c2_i32_68 c0_i32_69
  let c1_i32_70 : BitVec 32 := 1#32
  let v79 : BitVec 32 := Scalar.select v78 c1_i32_70 c2_i32_68
  let v80 : BitVec 32 := Scalar.remsi arg15 v79
  let c0_i32_72 : BitVec 32 := 0#32
  let v82 : BitVec 1 := Scalar.cmpi .slt v80 c0_i32_72
  let c0_i32_73 : BitVec 32 := 0#32
  let v83 : BitVec 1 := Scalar.cmpi .slt v79 c0_i32_73
  let v84 : BitVec 1 := Scalar.xori v82 v83
  let c0_i32_71 : BitVec 32 := 0#32
  let v81 : BitVec 1 := Scalar.cmpi .ne v80 c0_i32_71
  let v85 : BitVec 1 := Scalar.andi v84 v81
  let v86 : BitVec 32 := Scalar.addi v80 v79
  let v87 : BitVec 32 := Scalar.select v85 v86 v80
  let c2_i32_74 : BitVec 32 := 2#32
  let v88 : BitVec 32 := Scalar.muli v87 c2_i32_74
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v89 : BitVec 32 := Scalar.addi v88 v2
  let c128_i32_75 : BitVec 32 := 128#32
  let v90 : BitVec 32 := Scalar.muli v89 c128_i32_75
  let v91 : BitVec 32 := Scalar.addi v8 v90
  let c0_i32_91 : BitVec 32 := 0#32
  let c0_i32_92 : BitVec 32 := 0#32
  ![v77.toNat, v91.toNat, 0, 0]
def k0_cond3 (k0_t2 : Fin k0_t2_loop.trips) : BitVec 1 :=
  let c0_i32_26 : BitVec 32 := 0#32
  let c1_i32_28 : BitVec 32 := 1#32
  let arg15 : BitVec 32 := Scf.iv c0_i32_26 c1_i32_28 k0_t2
  let c7_i32 : BitVec 32 := 7#32
  let v118 : BitVec 1 := Scalar.cmpi .slt arg15 c7_i32
  let v119 : BitVec 32 := Scalar.extui v118
  let c0_i32_93 : BitVec 32 := 0#32
  let v120 : BitVec 1 := Scalar.cmpi .ne v119 c0_i32_93
  v120

def k0_off16 (k0_t2 : Fin k0_t2_loop.trips) : Fin 1 → Nat :=
  let c0_i32_26 : BitVec 32 := 0#32
  let c1_i32_28 : BitVec 32 := 1#32
  let arg15 : BitVec 32 := Scf.iv c0_i32_26 c1_i32_28 k0_t2
  let c1_i32_146 : BitVec 32 := 1#32
  let v212 : BitVec 32 := Scalar.addi arg15 c1_i32_146
  let c2_i32_168 : BitVec 32 := 2#32
  let c0_i32_169 : BitVec 32 := 0#32
  let v254 : BitVec 1 := Scalar.cmpi .eq c2_i32_168 c0_i32_169
  let c1_i32_170 : BitVec 32 := 1#32
  let v255 : BitVec 32 := Scalar.select v254 c1_i32_170 c2_i32_168
  let v256 : BitVec 32 := Scalar.remsi v212 v255
  let c0_i32_172 : BitVec 32 := 0#32
  let v258 : BitVec 1 := Scalar.cmpi .slt v256 c0_i32_172
  let c0_i32_173 : BitVec 32 := 0#32
  let v259 : BitVec 1 := Scalar.cmpi .slt v255 c0_i32_173
  let v260 : BitVec 1 := Scalar.xori v258 v259
  let c0_i32_171 : BitVec 32 := 0#32
  let v257 : BitVec 1 := Scalar.cmpi .ne v256 c0_i32_171
  let v261 : BitVec 1 := Scalar.andi v260 v257
  let v262 : BitVec 32 := Scalar.addi v256 v255
  let v263 : BitVec 32 := Scalar.select v261 v262 v256
  ![v263.toNat]
def k0_off17 (k0_t2 : Fin k0_t2_loop.trips) : Fin 4 → Nat :=
  let c0_i32_26 : BitVec 32 := 0#32
  let c1_i32_28 : BitVec 32 := 1#32
  let arg15 : BitVec 32 := Scf.iv c0_i32_26 c1_i32_28 k0_t2
  let c1_i32_146 : BitVec 32 := 1#32
  let v212 : BitVec 32 := Scalar.addi arg15 c1_i32_146
  let c2_i32_162 : BitVec 32 := 2#32
  let c0_i32_163 : BitVec 32 := 0#32
  let v244 : BitVec 1 := Scalar.cmpi .eq c2_i32_162 c0_i32_163
  let c1_i32_164 : BitVec 32 := 1#32
  let v245 : BitVec 32 := Scalar.select v244 c1_i32_164 c2_i32_162
  let v246 : BitVec 32 := Scalar.remsi v212 v245
  let c0_i32_166 : BitVec 32 := 0#32
  let v248 : BitVec 1 := Scalar.cmpi .slt v246 c0_i32_166
  let c0_i32_167 : BitVec 32 := 0#32
  let v249 : BitVec 1 := Scalar.cmpi .slt v245 c0_i32_167
  let v250 : BitVec 1 := Scalar.xori v248 v249
  let c0_i32_165 : BitVec 32 := 0#32
  let v247 : BitVec 1 := Scalar.cmpi .ne v246 c0_i32_165
  let v251 : BitVec 1 := Scalar.andi v250 v247
  let v252 : BitVec 32 := Scalar.addi v246 v245
  let v253 : BitVec 32 := Scalar.select v251 v252 v246
  let c0_i32_174 : BitVec 32 := 0#32
  let c0_i32_175 : BitVec 32 := 0#32
  let c0_i32_176 : BitVec 32 := 0#32
  ![v253.toNat, 0, 0, 0]
def k0_off18 (d0 : Dev nD) (k0_t2 : Fin k0_t2_loop.trips) : Fin 4 → Nat :=
  let c0_i32_26 : BitVec 32 := 0#32
  let c1_i32_28 : BitVec 32 := 1#32
  let arg15 : BitVec 32 := Scf.iv c0_i32_26 c1_i32_28 k0_t2
  let c1_i32_146 : BitVec 32 := 1#32
  let v212 : BitVec 32 := Scalar.addi arg15 c1_i32_146
  let c0_i32_148 : BitVec 32 := 0#32
  let v214 : BitVec 1 := Scalar.cmpi .sgt v212 c0_i32_148
  let v215 : BitVec 32 := Scalar.extui v214
  let c0_i32_149 : BitVec 32 := 0#32
  let v216 : BitVec 1 := Scalar.cmpi .slt v212 c0_i32_149
  let v217 : BitVec 32 := Scalar.extui v216
  let v218 : BitVec 32 := Scalar.subi v215 v217
  let c2_i32_147 : BitVec 32 := 2#32
  let c0_i32_150 : BitVec 32 := 0#32
  let v219 : BitVec 1 := Scalar.cmpi .sgt c2_i32_147 c0_i32_150
  let v220 : BitVec 32 := Scalar.extui v219
  let c0_i32_151 : BitVec 32 := 0#32
  let v221 : BitVec 1 := Scalar.cmpi .slt c2_i32_147 c0_i32_151
  let v222 : BitVec 32 := Scalar.extui v221
  let v223 : BitVec 32 := Scalar.subi v220 v222
  let v224 : BitVec 1 := Scalar.cmpi .ne v218 v223
  let v225 : BitVec 32 := Scalar.remsi v212 c2_i32_147
  let c0_i32_152 : BitVec 32 := 0#32
  let v226 : BitVec 1 := Scalar.cmpi .ne v225 c0_i32_152
  let v227 : BitVec 1 := Scalar.andi v224 v226
  let v213 : BitVec 32 := Scalar.divsi v212 c2_i32_147
  let c1_i32_153 : BitVec 32 := 1#32
  let v228 : BitVec 32 := Scalar.subi v213 c1_i32_153
  let v229 : BitVec 32 := Scalar.select v227 v228 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c2_i32_154 : BitVec 32 := 2#32
  let c0_i32_155 : BitVec 32 := 0#32
  let v230 : BitVec 1 := Scalar.cmpi .eq c2_i32_154 c0_i32_155
  let c1_i32_156 : BitVec 32 := 1#32
  let v231 : BitVec 32 := Scalar.select v230 c1_i32_156 c2_i32_154
  let v232 : BitVec 32 := Scalar.remsi v212 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let c2_i32_160 : BitVec 32 := 2#32
  let v240 : BitVec 32 := Scalar.muli v239 c2_i32_160
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v241 : BitVec 32 := Scalar.addi v240 v2
  let c128_i32_161 : BitVec 32 := 128#32
  let v242 : BitVec 32 := Scalar.muli v241 c128_i32_161
  let v243 : BitVec 32 := Scalar.addi v8 v242
  let c0_i32_177 : BitVec 32 := 0#32
  let c0_i32_178 : BitVec 32 := 0#32
  ![v229.toNat, v243.toNat, 0, 0]
def k0_cond4 (k0_t2 : Fin k0_t2_loop.trips) : BitVec 1 :=
  let c0_i32_26 : BitVec 32 := 0#32
  let c1_i32_28 : BitVec 32 := 1#32
  let arg15 : BitVec 32 := Scf.iv c0_i32_26 c1_i32_28 k0_t2
  let c7_i32_94 : BitVec 32 := 7#32
  let v121 : BitVec 1 := Scalar.cmpi .eq arg15 c7_i32_94
  let v122 : BitVec 32 := Scalar.extui v121
  let c0_i32_95 : BitVec 32 := 0#32
  let v123 : BitVec 1 := Scalar.cmpi .ne v122 c0_i32_95
  v123

def k0_off19 (d0 : Dev nD) : Fin 4 → Nat :=
  let c0_i32_149 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_147 : BitVec 32 := 0#32
  let c1_i32_146 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v212 : BitVec 32 := Scalar.subi c1_i32_146 v2
  let v213 : BitVec 32 := Scalar.addi c0_i32_147 v212
  let c128_i32_148 : BitVec 32 := 128#32
  let v214 : BitVec 32 := Scalar.muli v213 c128_i32_148
  let v215 : BitVec 32 := Scalar.addi v8 v214
  let c0_i32_155 : BitVec 32 := 0#32
  let c0_i32_156 : BitVec 32 := 0#32
  ![0, v215.toNat, 0, 0]
def k0_off20 (k0_t2 : Fin k0_t2_loop.trips) : Fin 1 → Nat :=
  let c0_i32_26 : BitVec 32 := 0#32
  let c1_i32_28 : BitVec 32 := 1#32
  let arg15 : BitVec 32 := Scf.iv c0_i32_26 c1_i32_28 k0_t2
  ![arg15.toNat]
def k0_off21 (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c0_i32_99 : BitVec 32 := 0#32
  let c0_i32_100 : BitVec 32 := 0#32
  ![arg15.toNat, 0, 0]
def k0_dev4 (d0 : Dev nD) : Nat :=
  let c0_i32_104 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_103 : BitVec 32 := 2#32
  let v134 : BitVec 32 := Scalar.muli v7 c2_i32_103
  let v135 : BitVec 32 := Scalar.addi c0_i32_104 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v136 : BitVec 32 := Scalar.muli v5 c1_i32_105
  let v137 : BitVec 32 := Scalar.addi v135 v136
  v137.toNat
def k0_cond5 (k0_t2 : Fin k0_t2_loop.trips) : BitVec 1 :=
  let c0_i32_26 : BitVec 32 := 0#32
  let c1_i32_28 : BitVec 32 := 1#32
  let arg15 : BitVec 32 := Scf.iv c0_i32_26 c1_i32_28 k0_t2
  let c2_i32_110 : BitVec 32 := 2#32
  let v146 : BitVec 1 := Scalar.cmpi .sge arg15 c2_i32_110
  let v147 : BitVec 32 := Scalar.extui v146
  let c0_i32_111 : BitVec 32 := 0#32
  let v148 : BitVec 1 := Scalar.cmpi .ne v147 c0_i32_111
  v148

def k0_off22 (k0_t2 : Fin k0_t2_loop.trips) : Fin 1 → Nat :=
  let c0_i32_26 : BitVec 32 := 0#32
  let c1_i32_28 : BitVec 32 := 1#32
  let arg15 : BitVec 32 := Scf.iv c0_i32_26 c1_i32_28 k0_t2
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  ![v60.toNat]
def k0_off23 (d0 : Dev nD) (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c2_i32_146 : BitVec 32 := 2#32
  let v212 : BitVec 32 := Scalar.subi arg15 c2_i32_146
  let c0_i32_148 : BitVec 32 := 0#32
  let v214 : BitVec 1 := Scalar.cmpi .sgt v212 c0_i32_148
  let v215 : BitVec 32 := Scalar.extui v214
  let c0_i32_149 : BitVec 32 := 0#32
  let v216 : BitVec 1 := Scalar.cmpi .slt v212 c0_i32_149
  let v217 : BitVec 32 := Scalar.extui v216
  let v218 : BitVec 32 := Scalar.subi v215 v217
  let c2_i32_147 : BitVec 32 := 2#32
  let c0_i32_150 : BitVec 32 := 0#32
  let v219 : BitVec 1 := Scalar.cmpi .sgt c2_i32_147 c0_i32_150
  let v220 : BitVec 32 := Scalar.extui v219
  let c0_i32_151 : BitVec 32 := 0#32
  let v221 : BitVec 1 := Scalar.cmpi .slt c2_i32_147 c0_i32_151
  let v222 : BitVec 32 := Scalar.extui v221
  let v223 : BitVec 32 := Scalar.subi v220 v222
  let v224 : BitVec 1 := Scalar.cmpi .ne v218 v223
  let v225 : BitVec 32 := Scalar.remsi v212 c2_i32_147
  let c0_i32_152 : BitVec 32 := 0#32
  let v226 : BitVec 1 := Scalar.cmpi .ne v225 c0_i32_152
  let v227 : BitVec 1 := Scalar.andi v224 v226
  let v213 : BitVec 32 := Scalar.divsi v212 c2_i32_147
  let c1_i32_153 : BitVec 32 := 1#32
  let v228 : BitVec 32 := Scalar.subi v213 c1_i32_153
  let v229 : BitVec 32 := Scalar.select v227 v228 v213
  let c2_i32_154 : BitVec 32 := 2#32
  let c0_i32_155 : BitVec 32 := 0#32
  let v230 : BitVec 1 := Scalar.cmpi .eq c2_i32_154 c0_i32_155
  let c1_i32_156 : BitVec 32 := 1#32
  let v231 : BitVec 32 := Scalar.select v230 c1_i32_156 c2_i32_154
  let v232 : BitVec 32 := Scalar.remsi v212 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let c2_i32_160 : BitVec 32 := 2#32
  let v240 : BitVec 32 := Scalar.muli v239 c2_i32_160
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v241 : BitVec 32 := Scalar.addi v240 v2
  let c128_i32_161 : BitVec 32 := 128#32
  let v242 : BitVec 32 := Scalar.muli v241 c128_i32_161
  let c0_i32_162 : BitVec 32 := 0#32
  ![v229.toNat, v242.toNat, 0]
def k0_off24 (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let c0_i32_163 : BitVec 32 := 0#32
  let c0_i32_164 : BitVec 32 := 0#32
  ![v60.toNat, 0, 0]
def k0_off25 (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let c0_i32_112 : BitVec 32 := 0#32
  let c0_i32_113 : BitVec 32 := 0#32
  ![v60.toNat, 0, 0]
def k0_off26 (k0_t2 : Fin k0_t2_loop.trips) : Fin 4 → Nat :=
  let c0_i32_26 : BitVec 32 := 0#32
  let c1_i32_28 : BitVec 32 := 1#32
  let arg15 : BitVec 32 := Scf.iv c0_i32_26 c1_i32_28 k0_t2
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let v155 : Index := Scalar.indexCast v60
  let c0 : Index := 0#32
  let c0_116 : Index := 0#32
  let c0_117 : Index := 0#32
  ![v155.toNat, 0, 0, 0]
def k0_off27 (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let v168 : Index := Scalar.indexCast v60
  let c0_124 : Index := 0#32
  let c0_125 : Index := 0#32
  ![v168.toNat, 0, 0]
def k0_off28 (d0 : Dev nD) (k0_t2 : Fin k0_t2_loop.trips) : Fin 3 → Nat :=
  let c0_i32_26 : BitVec 32 := 0#32
  let c1_i32_28 : BitVec 32 := 1#32
  let arg15 : BitVec 32 := Scf.iv c0_i32_26 c1_i32_28 k0_t2
  let c0_i32_129 : BitVec 32 := 0#32
  let v177 : BitVec 1 := Scalar.cmpi .sgt arg15 c0_i32_129
  let v178 : BitVec 32 := Scalar.extui v177
  let c0_i32_130 : BitVec 32 := 0#32
  let v179 : BitVec 1 := Scalar.cmpi .slt arg15 c0_i32_130
  let v180 : BitVec 32 := Scalar.extui v179
  let v181 : BitVec 32 := Scalar.subi v178 v180
  let c2_i32_128 : BitVec 32 := 2#32
  let c0_i32_131 : BitVec 32 := 0#32
  let v182 : BitVec 1 := Scalar.cmpi .sgt c2_i32_128 c0_i32_131
  let v183 : BitVec 32 := Scalar.extui v182
  let c0_i32_132 : BitVec 32 := 0#32
  let v184 : BitVec 1 := Scalar.cmpi .slt c2_i32_128 c0_i32_132
  let v185 : BitVec 32 := Scalar.extui v184
  let v186 : BitVec 32 := Scalar.subi v183 v185
  let v187 : BitVec 1 := Scalar.cmpi .ne v181 v186
  let v188 : BitVec 32 := Scalar.remsi arg15 c2_i32_128
  let c0_i32_133 : BitVec 32 := 0#32
  let v189 : BitVec 1 := Scalar.cmpi .ne v188 c0_i32_133
  let v190 : BitVec 1 := Scalar.andi v187 v189
  let v176 : BitVec 32 := Scalar.divsi arg15 c2_i32_128
  let c1_i32_134 : BitVec 32 := 1#32
  let v191 : BitVec 32 := Scalar.subi v176 c1_i32_134
  let v192 : BitVec 32 := Scalar.select v190 v191 v176
  let c2_i32_135 : BitVec 32 := 2#32
  let c0_i32_136 : BitVec 32 := 0#32
  let v193 : BitVec 1 := Scalar.cmpi .eq c2_i32_135 c0_i32_136
  let c1_i32_137 : BitVec 32 := 1#32
  let v194 : BitVec 32 := Scalar.select v193 c1_i32_137 c2_i32_135
  let v195 : BitVec 32 := Scalar.remsi arg15 v194
  let c0_i32_139 : BitVec 32 := 0#32
  let v197 : BitVec 1 := Scalar.cmpi .slt v195 c0_i32_139
  let c0_i32_140 : BitVec 32 := 0#32
  let v198 : BitVec 1 := Scalar.cmpi .slt v194 c0_i32_140
  let v199 : BitVec 1 := Scalar.xori v197 v198
  let c0_i32_138 : BitVec 32 := 0#32
  let v196 : BitVec 1 := Scalar.cmpi .ne v195 c0_i32_138
  let v200 : BitVec 1 := Scalar.andi v199 v196
  let v201 : BitVec 32 := Scalar.addi v195 v194
  let v202 : BitVec 32 := Scalar.select v200 v201 v195
  let c2_i32_141 : BitVec 32 := 2#32
  let v203 : BitVec 32 := Scalar.muli v202 c2_i32_141
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v204 : BitVec 32 := Scalar.addi v203 v2
  let c128_i32_142 : BitVec 32 := 128#32
  let v205 : BitVec 32 := Scalar.muli v204 c128_i32_142
  let c0_i32_143 : BitVec 32 := 0#32
  ![v192.toNat, v205.toNat, 0]
@[reducible] def k0_t3_loop : Scf.Loop 32 :=
  let c0_i32_30 : BitVec 32 := 0#32
  let c8_i32_31 : BitVec 32 := 8#32
  let v31 : BitVec 32 := Scalar.addi c0_i32_30 c8_i32_31
  let c1_i32_32 : BitVec 32 := 1#32
  ⟨c0_i32_30, v31, c1_i32_32⟩
def k0_off29 (k0_t3 : Fin k0_t3_loop.trips) : Fin 1 → Nat :=
  let c0_i32_30 : BitVec 32 := 0#32
  let c1_i32_32 : BitVec 32 := 1#32
  let arg15 : BitVec 32 := Scf.iv c0_i32_30 c1_i32_32 k0_t3
  let c2_i32_83 : BitVec 32 := 2#32
  let c0_i32_84 : BitVec 32 := 0#32
  let v103 : BitVec 1 := Scalar.cmpi .eq c2_i32_83 c0_i32_84
  let c1_i32_85 : BitVec 32 := 1#32
  let v104 : BitVec 32 := Scalar.select v103 c1_i32_85 c2_i32_83
  let v105 : BitVec 32 := Scalar.remsi arg15 v104
  let c0_i32_87 : BitVec 32 := 0#32
  let v107 : BitVec 1 := Scalar.cmpi .slt v105 c0_i32_87
  let c0_i32_88 : BitVec 32 := 0#32
  let v108 : BitVec 1 := Scalar.cmpi .slt v104 c0_i32_88
  let v109 : BitVec 1 := Scalar.xori v107 v108
  let c0_i32_86 : BitVec 32 := 0#32
  let v106 : BitVec 1 := Scalar.cmpi .ne v105 c0_i32_86
  let v110 : BitVec 1 := Scalar.andi v109 v106
  let v111 : BitVec 32 := Scalar.addi v105 v104
  let v112 : BitVec 32 := Scalar.select v110 v111 v105
  ![v112.toNat]
def k0_off30 (k0_t3 : Fin k0_t3_loop.trips) : Fin 4 → Nat :=
  let c0_i32_30 : BitVec 32 := 0#32
  let c1_i32_32 : BitVec 32 := 1#32
  let arg15 : BitVec 32 := Scf.iv c0_i32_30 c1_i32_32 k0_t3
  let c2_i32_77 : BitVec 32 := 2#32
  let c0_i32_78 : BitVec 32 := 0#32
  let v93 : BitVec 1 := Scalar.cmpi .eq c2_i32_77 c0_i32_78
  let c1_i32_79 : BitVec 32 := 1#32
  let v94 : BitVec 32 := Scalar.select v93 c1_i32_79 c2_i32_77
  let v95 : BitVec 32 := Scalar.remsi arg15 v94
  let c0_i32_81 : BitVec 32 := 0#32
  let v97 : BitVec 1 := Scalar.cmpi .slt v95 c0_i32_81
  let c0_i32_82 : BitVec 32 := 0#32
  let v98 : BitVec 1 := Scalar.cmpi .slt v94 c0_i32_82
  let v99 : BitVec 1 := Scalar.xori v97 v98
  let c0_i32_80 : BitVec 32 := 0#32
  let v96 : BitVec 1 := Scalar.cmpi .ne v95 c0_i32_80
  let v100 : BitVec 1 := Scalar.andi v99 v96
  let v101 : BitVec 32 := Scalar.addi v95 v94
  let v102 : BitVec 32 := Scalar.select v100 v101 v95
  let c0_i32_89 : BitVec 32 := 0#32
  let c0_i32_90 : BitVec 32 := 0#32
  let c0_i32_91 : BitVec 32 := 0#32
  ![v102.toNat, 0, 0, 0]
def k0_off31 (d0 : Dev nD) (k0_t3 : Fin k0_t3_loop.trips) : Fin 4 → Nat :=
  let c0_i32_30 : BitVec 32 := 0#32
  let c1_i32_32 : BitVec 32 := 1#32
  let arg15 : BitVec 32 := Scf.iv c0_i32_30 c1_i32_32 k0_t3
  let c0_i32_63 : BitVec 32 := 0#32
  let v63 : BitVec 1 := Scalar.cmpi .sgt arg15 c0_i32_63
  let v64 : BitVec 32 := Scalar.extui v63
  let c0_i32_64 : BitVec 32 := 0#32
  let v65 : BitVec 1 := Scalar.cmpi .slt arg15 c0_i32_64
  let v66 : BitVec 32 := Scalar.extui v65
  let v67 : BitVec 32 := Scalar.subi v64 v66
  let c2_i32_62 : BitVec 32 := 2#32
  let c0_i32_65 : BitVec 32 := 0#32
  let v68 : BitVec 1 := Scalar.cmpi .sgt c2_i32_62 c0_i32_65
  let v69 : BitVec 32 := Scalar.extui v68
  let c0_i32_66 : BitVec 32 := 0#32
  let v70 : BitVec 1 := Scalar.cmpi .slt c2_i32_62 c0_i32_66
  let v71 : BitVec 32 := Scalar.extui v70
  let v72 : BitVec 32 := Scalar.subi v69 v71
  let v73 : BitVec 1 := Scalar.cmpi .ne v67 v72
  let v74 : BitVec 32 := Scalar.remsi arg15 c2_i32_62
  let c0_i32_67 : BitVec 32 := 0#32
  let v75 : BitVec 1 := Scalar.cmpi .ne v74 c0_i32_67
  let v76 : BitVec 1 := Scalar.andi v73 v75
  let v62 : BitVec 32 := Scalar.divsi arg15 c2_i32_62
  let c1_i32_68 : BitVec 32 := 1#32
  let v77 : BitVec 32 := Scalar.subi v62 c1_i32_68
  let v78 : BitVec 32 := Scalar.select v76 v77 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c2_i32_69 : BitVec 32 := 2#32
  let c0_i32_70 : BitVec 32 := 0#32
  let v79 : BitVec 1 := Scalar.cmpi .eq c2_i32_69 c0_i32_70
  let c1_i32_71 : BitVec 32 := 1#32
  let v80 : BitVec 32 := Scalar.select v79 c1_i32_71 c2_i32_69
  let v81 : BitVec 32 := Scalar.remsi arg15 v80
  let c0_i32_73 : BitVec 32 := 0#32
  let v83 : BitVec 1 := Scalar.cmpi .slt v81 c0_i32_73
  let c0_i32_74 : BitVec 32 := 0#32
  let v84 : BitVec 1 := Scalar.cmpi .slt v80 c0_i32_74
  let v85 : BitVec 1 := Scalar.xori v83 v84
  let c0_i32_72 : BitVec 32 := 0#32
  let v82 : BitVec 1 := Scalar.cmpi .ne v81 c0_i32_72
  let v86 : BitVec 1 := Scalar.andi v85 v82
  let v87 : BitVec 32 := Scalar.addi v81 v80
  let v88 : BitVec 32 := Scalar.select v86 v87 v81
  let c2_i32_75 : BitVec 32 := 2#32
  let v89 : BitVec 32 := Scalar.muli v88 c2_i32_75
  let c1_i32_61 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v61 : BitVec 32 := Scalar.subi c1_i32_61 v2
  let v90 : BitVec 32 := Scalar.addi v89 v61
  let c128_i32_76 : BitVec 32 := 128#32
  let v91 : BitVec 32 := Scalar.muli v90 c128_i32_76
  let v92 : BitVec 32 := Scalar.addi v8 v91
  let c0_i32_92 : BitVec 32 := 0#32
  let c0_i32_93 : BitVec 32 := 0#32
  ![v78.toNat, v92.toNat, 0, 0]
def k0_cond6 (k0_t3 : Fin k0_t3_loop.trips) : BitVec 1 :=
  let c0_i32_30 : BitVec 32 := 0#32
  let c1_i32_32 : BitVec 32 := 1#32
  let arg15 : BitVec 32 := Scf.iv c0_i32_30 c1_i32_32 k0_t3
  let c7_i32 : BitVec 32 := 7#32
  let v119 : BitVec 1 := Scalar.cmpi .slt arg15 c7_i32
  let v120 : BitVec 32 := Scalar.extui v119
  let c0_i32_94 : BitVec 32 := 0#32
  let v121 : BitVec 1 := Scalar.cmpi .ne v120 c0_i32_94
  v121

def k0_off32 (k0_t3 : Fin k0_t3_loop.trips) : Fin 1 → Nat :=
  let c0_i32_30 : BitVec 32 := 0#32
  let c1_i32_32 : BitVec 32 := 1#32
  let arg15 : BitVec 32 := Scf.iv c0_i32_30 c1_i32_32 k0_t3
  let c1_i32_155 : BitVec 32 := 1#32
  let v232 : BitVec 32 := Scalar.addi arg15 c1_i32_155
  let c2_i32_178 : BitVec 32 := 2#32
  let c0_i32_179 : BitVec 32 := 0#32
  let v275 : BitVec 1 := Scalar.cmpi .eq c2_i32_178 c0_i32_179
  let c1_i32_180 : BitVec 32 := 1#32
  let v276 : BitVec 32 := Scalar.select v275 c1_i32_180 c2_i32_178
  let v277 : BitVec 32 := Scalar.remsi v232 v276
  let c0_i32_182 : BitVec 32 := 0#32
  let v279 : BitVec 1 := Scalar.cmpi .slt v277 c0_i32_182
  let c0_i32_183 : BitVec 32 := 0#32
  let v280 : BitVec 1 := Scalar.cmpi .slt v276 c0_i32_183
  let v281 : BitVec 1 := Scalar.xori v279 v280
  let c0_i32_181 : BitVec 32 := 0#32
  let v278 : BitVec 1 := Scalar.cmpi .ne v277 c0_i32_181
  let v282 : BitVec 1 := Scalar.andi v281 v278
  let v283 : BitVec 32 := Scalar.addi v277 v276
  let v284 : BitVec 32 := Scalar.select v282 v283 v277
  ![v284.toNat]
def k0_off33 (k0_t3 : Fin k0_t3_loop.trips) : Fin 4 → Nat :=
  let c0_i32_30 : BitVec 32 := 0#32
  let c1_i32_32 : BitVec 32 := 1#32
  let arg15 : BitVec 32 := Scf.iv c0_i32_30 c1_i32_32 k0_t3
  let c1_i32_155 : BitVec 32 := 1#32
  let v232 : BitVec 32 := Scalar.addi arg15 c1_i32_155
  let c2_i32_172 : BitVec 32 := 2#32
  let c0_i32_173 : BitVec 32 := 0#32
  let v265 : BitVec 1 := Scalar.cmpi .eq c2_i32_172 c0_i32_173
  let c1_i32_174 : BitVec 32 := 1#32
  let v266 : BitVec 32 := Scalar.select v265 c1_i32_174 c2_i32_172
  let v267 : BitVec 32 := Scalar.remsi v232 v266
  let c0_i32_176 : BitVec 32 := 0#32
  let v269 : BitVec 1 := Scalar.cmpi .slt v267 c0_i32_176
  let c0_i32_177 : BitVec 32 := 0#32
  let v270 : BitVec 1 := Scalar.cmpi .slt v266 c0_i32_177
  let v271 : BitVec 1 := Scalar.xori v269 v270
  let c0_i32_175 : BitVec 32 := 0#32
  let v268 : BitVec 1 := Scalar.cmpi .ne v267 c0_i32_175
  let v272 : BitVec 1 := Scalar.andi v271 v268
  let v273 : BitVec 32 := Scalar.addi v267 v266
  let v274 : BitVec 32 := Scalar.select v272 v273 v267
  let c0_i32_184 : BitVec 32 := 0#32
  let c0_i32_185 : BitVec 32 := 0#32
  let c0_i32_186 : BitVec 32 := 0#32
  ![v274.toNat, 0, 0, 0]
def k0_off34 (d0 : Dev nD) (k0_t3 : Fin k0_t3_loop.trips) : Fin 4 → Nat :=
  let c0_i32_30 : BitVec 32 := 0#32
  let c1_i32_32 : BitVec 32 := 1#32
  let arg15 : BitVec 32 := Scf.iv c0_i32_30 c1_i32_32 k0_t3
  let c1_i32_155 : BitVec 32 := 1#32
  let v232 : BitVec 32 := Scalar.addi arg15 c1_i32_155
  let c0_i32_158 : BitVec 32 := 0#32
  let v235 : BitVec 1 := Scalar.cmpi .sgt v232 c0_i32_158
  let v236 : BitVec 32 := Scalar.extui v235
  let c0_i32_159 : BitVec 32 := 0#32
  let v237 : BitVec 1 := Scalar.cmpi .slt v232 c0_i32_159
  let v238 : BitVec 32 := Scalar.extui v237
  let v239 : BitVec 32 := Scalar.subi v236 v238
  let c2_i32_157 : BitVec 32 := 2#32
  let c0_i32_160 : BitVec 32 := 0#32
  let v240 : BitVec 1 := Scalar.cmpi .sgt c2_i32_157 c0_i32_160
  let v241 : BitVec 32 := Scalar.extui v240
  let c0_i32_161 : BitVec 32 := 0#32
  let v242 : BitVec 1 := Scalar.cmpi .slt c2_i32_157 c0_i32_161
  let v243 : BitVec 32 := Scalar.extui v242
  let v244 : BitVec 32 := Scalar.subi v241 v243
  let v245 : BitVec 1 := Scalar.cmpi .ne v239 v244
  let v246 : BitVec 32 := Scalar.remsi v232 c2_i32_157
  let c0_i32_162 : BitVec 32 := 0#32
  let v247 : BitVec 1 := Scalar.cmpi .ne v246 c0_i32_162
  let v248 : BitVec 1 := Scalar.andi v245 v247
  let v234 : BitVec 32 := Scalar.divsi v232 c2_i32_157
  let c1_i32_163 : BitVec 32 := 1#32
  let v249 : BitVec 32 := Scalar.subi v234 c1_i32_163
  let v250 : BitVec 32 := Scalar.select v248 v249 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c2_i32_164 : BitVec 32 := 2#32
  let c0_i32_165 : BitVec 32 := 0#32
  let v251 : BitVec 1 := Scalar.cmpi .eq c2_i32_164 c0_i32_165
  let c1_i32_166 : BitVec 32 := 1#32
  let v252 : BitVec 32 := Scalar.select v251 c1_i32_166 c2_i32_164
  let v253 : BitVec 32 := Scalar.remsi v232 v252
  let c0_i32_168 : BitVec 32 := 0#32
  let v255 : BitVec 1 := Scalar.cmpi .slt v253 c0_i32_168
  let c0_i32_169 : BitVec 32 := 0#32
  let v256 : BitVec 1 := Scalar.cmpi .slt v252 c0_i32_169
  let v257 : BitVec 1 := Scalar.xori v255 v256
  let c0_i32_167 : BitVec 32 := 0#32
  let v254 : BitVec 1 := Scalar.cmpi .ne v253 c0_i32_167
  let v258 : BitVec 1 := Scalar.andi v257 v254
  let v259 : BitVec 32 := Scalar.addi v253 v252
  let v260 : BitVec 32 := Scalar.select v258 v259 v253
  let c2_i32_170 : BitVec 32 := 2#32
  let v261 : BitVec 32 := Scalar.muli v260 c2_i32_170
  let c1_i32_156 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v233 : BitVec 32 := Scalar.subi c1_i32_156 v2
  let v262 : BitVec 32 := Scalar.addi v261 v233
  let c128_i32_171 : BitVec 32 := 128#32
  let v263 : BitVec 32 := Scalar.muli v262 c128_i32_171
  let v264 : BitVec 32 := Scalar.addi v8 v263
  let c0_i32_187 : BitVec 32 := 0#32
  let c0_i32_188 : BitVec 32 := 0#32
  ![v250.toNat, v264.toNat, 0, 0]
def k0_off35 (k0_t3 : Fin k0_t3_loop.trips) : Fin 1 → Nat :=
  let c0_i32_30 : BitVec 32 := 0#32
  let c1_i32_32 : BitVec 32 := 1#32
  let arg15 : BitVec 32 := Scf.iv c0_i32_30 c1_i32_32 k0_t3
  ![arg15.toNat]
def k0_off36 (k0_t3 : Fin k0_t3_loop.trips) : Fin 3 → Nat :=
  let c0_i32_30 : BitVec 32 := 0#32
  let c1_i32_32 : BitVec 32 := 1#32
  let arg15 : BitVec 32 := Scf.iv c0_i32_30 c1_i32_32 k0_t3
  let c0_i32_98 : BitVec 32 := 0#32
  let c0_i32_99 : BitVec 32 := 0#32
  ![arg15.toNat, 0, 0]
def k0_off37 (d0 : Dev nD) (k0_t3 : Fin k0_t3_loop.trips) : Fin 3 → Nat :=
  let c0_i32_30 : BitVec 32 := 0#32
  let c1_i32_32 : BitVec 32 := 1#32
  let arg15 : BitVec 32 := Scf.iv c0_i32_30 c1_i32_32 k0_t3
  let c0_i32_103 : BitVec 32 := 0#32
  let v133 : BitVec 1 := Scalar.cmpi .sgt arg15 c0_i32_103
  let v134 : BitVec 32 := Scalar.extui v133
  let c0_i32_104 : BitVec 32 := 0#32
  let v135 : BitVec 1 := Scalar.cmpi .slt arg15 c0_i32_104
  let v136 : BitVec 32 := Scalar.extui v135
  let v137 : BitVec 32 := Scalar.subi v134 v136
  let c2_i32_102 : BitVec 32 := 2#32
  let c0_i32_105 : BitVec 32 := 0#32
  let v138 : BitVec 1 := Scalar.cmpi .sgt c2_i32_102 c0_i32_105
  let v139 : BitVec 32 := Scalar.extui v138
  let c0_i32_106 : BitVec 32 := 0#32
  let v140 : BitVec 1 := Scalar.cmpi .slt c2_i32_102 c0_i32_106
  let v141 : BitVec 32 := Scalar.extui v140
  let v142 : BitVec 32 := Scalar.subi v139 v141
  let v143 : BitVec 1 := Scalar.cmpi .ne v137 v142
  let v144 : BitVec 32 := Scalar.remsi arg15 c2_i32_102
  let c0_i32_107 : BitVec 32 := 0#32
  let v145 : BitVec 1 := Scalar.cmpi .ne v144 c0_i32_107
  let v146 : BitVec 1 := Scalar.andi v143 v145
  let v132 : BitVec 32 := Scalar.divsi arg15 c2_i32_102
  let c1_i32_108 : BitVec 32 := 1#32
  let v147 : BitVec 32 := Scalar.subi v132 c1_i32_108
  let v148 : BitVec 32 := Scalar.select v146 v147 v132
  let c2_i32_109 : BitVec 32 := 2#32
  let c0_i32_110 : BitVec 32 := 0#32
  let v149 : BitVec 1 := Scalar.cmpi .eq c2_i32_109 c0_i32_110
  let c1_i32_111 : BitVec 32 := 1#32
  let v150 : BitVec 32 := Scalar.select v149 c1_i32_111 c2_i32_109
  let v151 : BitVec 32 := Scalar.remsi arg15 v150
  let c0_i32_113 : BitVec 32 := 0#32
  let v153 : BitVec 1 := Scalar.cmpi .slt v151 c0_i32_113
  let c0_i32_114 : BitVec 32 := 0#32
  let v154 : BitVec 1 := Scalar.cmpi .slt v150 c0_i32_114
  let v155 : BitVec 1 := Scalar.xori v153 v154
  let c0_i32_112 : BitVec 32 := 0#32
  let v152 : BitVec 1 := Scalar.cmpi .ne v151 c0_i32_112
  let v156 : BitVec 1 := Scalar.andi v155 v152
  let v157 : BitVec 32 := Scalar.addi v151 v150
  let v158 : BitVec 32 := Scalar.select v156 v157 v151
  let c2_i32_115 : BitVec 32 := 2#32
  let v159 : BitVec 32 := Scalar.muli v158 c2_i32_115
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v160 : BitVec 32 := Scalar.addi v159 v2
  let c128_i32_116 : BitVec 32 := 128#32
  let v161 : BitVec 32 := Scalar.muli v160 c128_i32_116
  let c0_i32_117 : BitVec 32 := 0#32
  ![v148.toNat, v161.toNat, 0]
def k0_off38 (k0_t3 : Fin k0_t3_loop.trips) : Fin 3 → Nat :=
  let c0_i32_30 : BitVec 32 := 0#32
  let c1_i32_32 : BitVec 32 := 1#32
  let arg15 : BitVec 32 := Scf.iv c0_i32_30 c1_i32_32 k0_t3
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let c0_i32_118 : BitVec 32 := 0#32
  let c0_i32_119 : BitVec 32 := 0#32
  ![v60.toNat, 0, 0]
def k0_off39 (k0_t3 : Fin k0_t3_loop.trips) : Fin 4 → Nat :=
  let c0_i32_30 : BitVec 32 := 0#32
  let c1_i32_32 : BitVec 32 := 1#32
  let arg15 : BitVec 32 := Scf.iv c0_i32_30 c1_i32_32 k0_t3
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let v174 : Index := Scalar.indexCast v60
  let c0 : Index := 0#32
  let c0_124 : Index := 0#32
  let c0_125 : Index := 0#32
  ![v174.toNat, 0, 0, 0]
def k0_off40 (k0_t3 : Fin k0_t3_loop.trips) : Fin 3 → Nat :=
  let c0_i32_30 : BitVec 32 := 0#32
  let c1_i32_32 : BitVec 32 := 1#32
  let arg15 : BitVec 32 := Scf.iv c0_i32_30 c1_i32_32 k0_t3
  let c2_i32_55 : BitVec 32 := 2#32
  let c0_i32_56 : BitVec 32 := 0#32
  let v51 : BitVec 1 := Scalar.cmpi .eq c2_i32_55 c0_i32_56
  let c1_i32_57 : BitVec 32 := 1#32
  let v52 : BitVec 32 := Scalar.select v51 c1_i32_57 c2_i32_55
  let v53 : BitVec 32 := Scalar.remsi arg15 v52
  let c0_i32_59 : BitVec 32 := 0#32
  let v55 : BitVec 1 := Scalar.cmpi .slt v53 c0_i32_59
  let c0_i32_60 : BitVec 32 := 0#32
  let v56 : BitVec 1 := Scalar.cmpi .slt v52 c0_i32_60
  let v57 : BitVec 1 := Scalar.xori v55 v56
  let c0_i32_58 : BitVec 32 := 0#32
  let v54 : BitVec 1 := Scalar.cmpi .ne v53 c0_i32_58
  let v58 : BitVec 1 := Scalar.andi v57 v54
  let v59 : BitVec 32 := Scalar.addi v53 v52
  let v60 : BitVec 32 := Scalar.select v58 v59 v53
  let v187 : Index := Scalar.indexCast v60
  let c0_132 : Index := 0#32
  let c0_133 : Index := 0#32
  ![v187.toNat, 0, 0]
def k0_off41 (d0 : Dev nD) (k0_t3 : Fin k0_t3_loop.trips) : Fin 3 → Nat :=
  let c0_i32_30 : BitVec 32 := 0#32
  let c1_i32_32 : BitVec 32 := 1#32
  let arg15 : BitVec 32 := Scf.iv c0_i32_30 c1_i32_32 k0_t3
  let c0_i32_138 : BitVec 32 := 0#32
  let v197 : BitVec 1 := Scalar.cmpi .sgt arg15 c0_i32_138
  let v198 : BitVec 32 := Scalar.extui v197
  let c0_i32_139 : BitVec 32 := 0#32
  let v199 : BitVec 1 := Scalar.cmpi .slt arg15 c0_i32_139
  let v200 : BitVec 32 := Scalar.extui v199
  let v201 : BitVec 32 := Scalar.subi v198 v200
  let c2_i32_137 : BitVec 32 := 2#32
  let c0_i32_140 : BitVec 32 := 0#32
  let v202 : BitVec 1 := Scalar.cmpi .sgt c2_i32_137 c0_i32_140
  let v203 : BitVec 32 := Scalar.extui v202
  let c0_i32_141 : BitVec 32 := 0#32
  let v204 : BitVec 1 := Scalar.cmpi .slt c2_i32_137 c0_i32_141
  let v205 : BitVec 32 := Scalar.extui v204
  let v206 : BitVec 32 := Scalar.subi v203 v205
  let v207 : BitVec 1 := Scalar.cmpi .ne v201 v206
  let v208 : BitVec 32 := Scalar.remsi arg15 c2_i32_137
  let c0_i32_142 : BitVec 32 := 0#32
  let v209 : BitVec 1 := Scalar.cmpi .ne v208 c0_i32_142
  let v210 : BitVec 1 := Scalar.andi v207 v209
  let v196 : BitVec 32 := Scalar.divsi arg15 c2_i32_137
  let c1_i32_143 : BitVec 32 := 1#32
  let v211 : BitVec 32 := Scalar.subi v196 c1_i32_143
  let v212 : BitVec 32 := Scalar.select v210 v211 v196
  let c2_i32_144 : BitVec 32 := 2#32
  let c0_i32_145 : BitVec 32 := 0#32
  let v213 : BitVec 1 := Scalar.cmpi .eq c2_i32_144 c0_i32_145
  let c1_i32_146 : BitVec 32 := 1#32
  let v214 : BitVec 32 := Scalar.select v213 c1_i32_146 c2_i32_144
  let v215 : BitVec 32 := Scalar.remsi arg15 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c2_i32_150 : BitVec 32 := 2#32
  let v223 : BitVec 32 := Scalar.muli v222 c2_i32_150
  let c1_i32_136 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v195 : BitVec 32 := Scalar.subi c1_i32_136 v2
  let v224 : BitVec 32 := Scalar.addi v223 v195
  let c128_i32_151 : BitVec 32 := 128#32
  let v225 : BitVec 32 := Scalar.muli v224 c128_i32_151
  let c0_i32_152 : BitVec 32 := 0#32
  ![v212.toNat, v225.toNat, 0]
@[reducible] def k0_t4_loop : Scf.Loop 32 :=
  let c0_i32_34 : BitVec 32 := 0#32
  let c8_i32_35 : BitVec 32 := 8#32
  let v32 : BitVec 32 := Scalar.addi c0_i32_34 c8_i32_35
  let c1_i32_36 : BitVec 32 := 1#32
  ⟨c0_i32_34, v32, c1_i32_36⟩
def k0_off42 (k0_t4 : Fin k0_t4_loop.trips) : Fin 1 → Nat :=
  let c0_i32_34 : BitVec 32 := 0#32
  let c1_i32_36 : BitVec 32 := 1#32
  let arg15 : BitVec 32 := Scf.iv c0_i32_34 c1_i32_36 k0_t4
  ![arg15.toNat]
def k0_off43 (k0_t4 : Fin k0_t4_loop.trips) : Fin 3 → Nat :=
  let c0_i32_34 : BitVec 32 := 0#32
  let c1_i32_36 : BitVec 32 := 1#32
  let arg15 : BitVec 32 := Scf.iv c0_i32_34 c1_i32_36 k0_t4
  let c0_i32_56 : BitVec 32 := 0#32
  let c0_i32_57 : BitVec 32 := 0#32
  ![arg15.toNat, 0, 0]
def k0_off44 (d0 : Dev nD) (c0_i32_39 : BitVec 32) : Fin 3 → Nat :=
  let c3_i32 : BitVec 32 := 3#32
  let c1_i32_38 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v33 : BitVec 32 := Scalar.subi c1_i32_38 v2
  let v34 : BitVec 32 := Scalar.addi c0_i32_39 v33
  let c128_i32_40 : BitVec 32 := 128#32
  let v35 : BitVec 32 := Scalar.muli v34 c128_i32_40
  let c0_i32_43 : BitVec 32 := 0#32
  ![3, v35.toNat, 0]
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Places.lean ====
/-
# The places the kernel touches

Every buffer slot, input chunk, output chunk and semaphore the body names, in closed form: the offsets the
program computes with words are equated with small tables over the device and the trip, once, by evaluation.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

namespace Cert.K

open Cert.KernelIdeal Cert.KernelIdeal.Gen

open Idealize.ShloMosaic
open Idealize.ShloMosaic.TcCoe

/-! ## The mesh -/

set_option backward.proofsInPublic true in
/-- The device across the "y" axis. -/
def py (c : Dev nD) : Dev nD := ⟨(2 * (c.val / 2) + 1) - (c.val % 2), by have := c.isLt; simp only [nD] at *; omega⟩
set_option backward.proofsInPublic true in
/-- The device across the "x" axis. -/
def px (c : Dev nD) : Dev nD := ⟨((c.val % 2) + 2) - 2 * (c.val / 2), by have := c.isLt; simp only [nD] at *; omega⟩

theorem py_py (c : Dev nD) : py (py c) = c := by revert c; decide
theorem px_px (c : Dev nD) : px (px c) = c := by revert c; decide
theorem py_ne_px (c : Dev nD) : py c ≠ px c := by revert c; decide

theorem dev1_eq (c : Dev nD) : (⟨k0_dev1 c, k0_dev1_lt c⟩ : Dev nD) = py c := Fin.ext (k0_dev1_eq c)
theorem dev2_eq (c : Dev nD) : (⟨k0_dev2 c, k0_dev2_lt c⟩ : Dev nD) = px c := Fin.ext (k0_dev2_eq c)
theorem dev3_eq (c : Dev nD) : (⟨k0_dev3 c, k0_dev3_lt c⟩ : Dev nD) = py c := Fin.ext (k0_dev3_eq c)
theorem dev4_eq (c : Dev nD) : (⟨k0_dev4 c, k0_dev4_lt c⟩ : Dev nD) = px c := Fin.ext (k0_dev4_eq c)

def yE : Dev nD ≃ Dev nD := ⟨py, py, py_py, py_py⟩
def xE : Dev nD ≃ Dev nD := ⟨px, px, px_px, px_px⟩

/-! ## Trips and slots -/

theorem trips1 : k0_t1_loop.trips = 8 := by decide
theorem trips2 : k0_t2_loop.trips = 8 := by decide
theorem trips3 : k0_t3_loop.trips = 8 := by decide
theorem trips4 : k0_t4_loop.trips = 8 := by decide

/-- The slot of a two-slot buffer that step `n` uses. -/
@[reducible] def par (n : ℕ) : Fin 2 := ⟨n % 2, Nat.mod_lt _ (by decide)⟩

/-! ## Offsets -/

/-- Where input chunk `n` of device `c` starts in its part of `O`: chunks 0–7 are the rows sent across "y",
    8–15 the rows summed after the first landing, 16–23 those summed after the second. -/
def inOff (c : Dev nD) (n : Fin 24) : Fin 4 → ℕ :=
  ![(n.val % 8) / 2,
    256 * ((n.val % 8) % 2) + 512 * (if n.val < 8 then 1 - c.val % 2 else c.val % 2) + 128 * (if n.val < 16 then c.val / 2 else 1 - c.val / 2),
    0, 0]
/-- Where output chunk `n` of device `c` starts. -/
def outOff (c : Dev nD) (n : Fin 16) : Fin 3 → ℕ :=
  ![(n.val % 8) / 2, 256 * ((n.val % 8) % 2) + 128 * (if n.val < 8 then c.val / 2 else 1 - c.val / 2), 0]

theorem inOff_inb : ∀ (c : Dev nD) (n : Fin 24) (a : Fin 4), inOff c n a + S1x128x16x128.size a ≤ S4x1024x16x128.size a := by decide +kernel
theorem outOff_inb : ∀ (c : Dev nD) (n : Fin 16) (a : Fin 3), outOff c n a + S1x128x4096.size a ≤ S4x512x4096.size a := by decide +kernel
theorem o_inb : ∀ (b : Fin 2) (a : Fin 4), (![b.val, 0, 0, 0] : Fin 4 → ℕ) a + S1x128x16x128.size a ≤ S2x128x16x128.size a := by decide +kernel
theorem d_inb : ∀ (b : Fin 2) (a : Fin 3), (![b.val, 0, 0] : Fin 3 → ℕ) a + S1x128x4096.size a ≤ S2x128x4096.size a := by decide +kernel
theorem s_inb : ∀ (b : Fin 8) (a : Fin 3), (![b.val, 0, 0] : Fin 3 → ℕ) a + S1x128x4096.size a ≤ S8x128x4096.size a := by decide +kernel
theorem s2_inb : ∀ (b : Fin 2) (a : Fin 1), (![b.val] : Fin 1 → ℕ) a + S1.size a ≤ S2.size a := by decide +kernel
theorem s8_inb : ∀ (b : Fin 8) (a : Fin 1), (![b.val] : Fin 1 → ℕ) a + S1.size a ≤ S8.size a := by decide +kernel

section Phase1
variable (c : Dev nD) (t : Fin k0_t1_loop.trips)
theorem off1_eq : k0_off1 c = inOff c 0 := by revert c; decide +kernel
theorem off2_eq : k0_off2 t = ![t.val % 2] := by revert t; decide +kernel
theorem off5_eq (h : k0_cond1 t = 1#1) : k0_off5 t = ![(t.val + 1) % 2] := by revert t; decide +kernel
theorem off6_eq (h : k0_cond1 t = 1#1) : k0_off6 t = ![(t.val + 1) % 2, 0, 0, 0] := by revert t; decide +kernel
theorem off7_eq (h : k0_cond1 t = 1#1) : ∃ h', k0_off7 c t = inOff c ⟨t.val + 1, h'⟩ := by revert c t; decide +kernel
theorem off8_eq : k0_off8 c = inOff c 8 := by revert c; decide +kernel
theorem off9_eq : k0_off9 t = ![t.val % 2, 0, 0, 0] := by revert t; decide +kernel
theorem cond1_iff : k0_cond1 t = 1#1 ↔ t.val < 7 := by revert t; decide +kernel
theorem cond2_iff : k0_cond2 t = 1#1 ↔ t.val = 7 := by revert t; decide +kernel
end Phase1

section Phase2
variable (c : Dev nD) (t : Fin k0_t2_loop.trips)
theorem off13_eq : k0_off13 t = ![t.val % 2] := by revert t; decide +kernel
theorem off16_eq (h : k0_cond3 t = 1#1) : k0_off16 t = ![(t.val + 1) % 2] := by revert t; decide +kernel
theorem off17_eq (h : k0_cond3 t = 1#1) : k0_off17 t = ![(t.val + 1) % 2, 0, 0, 0] := by revert t; decide +kernel
theorem off18_eq (h : k0_cond3 t = 1#1) : ∃ h', k0_off18 c t = inOff c ⟨8 + t.val + 1, h'⟩ := by revert c t; decide +kernel
theorem off19_eq : k0_off19 c = inOff c 16 := by revert c; decide +kernel
theorem off22_eq (h : k0_cond5 t = 1#1) : k0_off22 t = ![t.val % 2] := by revert t; decide +kernel
theorem off25_eq : k0_off25 t = ![t.val % 2, 0, 0] := by revert t; decide +kernel
theorem off26_eq : k0_off26 t = ![t.val % 2, 0, 0, 0] := by revert t; decide +kernel
theorem off27_eq : k0_off27 t = ![t.val % 2, 0, 0] := by revert t; decide +kernel
theorem off28_eq : ∃ h', k0_off28 c t = outOff c ⟨t.val, h'⟩ := by revert c t; decide +kernel
theorem cond3_iff : k0_cond3 t = 1#1 ↔ t.val < 7 := by revert t; decide +kernel
theorem cond4_iff : k0_cond4 t = 1#1 ↔ t.val = 7 := by revert t; decide +kernel
theorem cond5_iff : k0_cond5 t = 1#1 ↔ 2 ≤ t.val := by revert t; decide +kernel
end Phase2

section Phase3
variable (c : Dev nD) (t : Fin k0_t3_loop.trips)
theorem off29_eq : k0_off29 t = ![t.val % 2] := by revert t; decide +kernel
theorem off32_eq (h : k0_cond6 t = 1#1) : k0_off32 t = ![(t.val + 1) % 2] := by revert t; decide +kernel
theorem off33_eq (h : k0_cond6 t = 1#1) : k0_off33 t = ![(t.val + 1) % 2, 0, 0, 0] := by revert t; decide +kernel
theorem off34_eq (h : k0_cond6 t = 1#1) : ∃ h', k0_off34 c t = inOff c ⟨16 + t.val + 1, h'⟩ := by revert c t; decide +kernel
theorem off38_eq : k0_off38 t = ![t.val % 2, 0, 0] := by revert t; decide +kernel
theorem off39_eq : k0_off39 t = ![t.val % 2, 0, 0, 0] := by revert t; decide +kernel
theorem off40_eq : k0_off40 t = ![t.val % 2, 0, 0] := by revert t; decide +kernel
theorem off41_eq : ∃ h', k0_off41 c t = outOff c ⟨8 + t.val, h'⟩ := by revert c t; decide +kernel
theorem cond6_iff : k0_cond6 t = 1#1 ↔ t.val < 7 := by revert t; decide +kernel
end Phase3

/-! ## The slots as memrefs -/

abbrev wM : Memref sig .tc .vmem S2048x4096 .f32 := Memref.whole cc0_stg0_0
abbrev oM : Memref sig .tc .vmem S2x128x16x128 .f32 := Memref.whole cc0_scratch0
abbrev sM : Memref sig .tc .vmem S8x128x4096 .f32 := Memref.whole cc0_scratch1
abbrev dM : Memref sig .tc .vmem S2x128x4096 .f32 := Memref.whole cc0_scratch2
abbrev aM : Memref sig .tc .hbm S4x1024x16x128 .f32 := Memref.whole main_arg0
abbrev uM : Memref sig .tc .hbm S4x512x4096 .f32 := Memref.whole main_v1_0
abbrev yM : Memref sig .tc .hbm S8x128x4096 .f32 := Memref.whole main_v1_1
abbrev xM : Memref sig .tc .hbm S8x128x4096 .f32 := Memref.whole main_v1_2

abbrev oV (off : Fin 4 → ℕ) (h : ∀ a, off a + S1x128x16x128.size a ≤ S2x128x16x128.size a) : Memref sig .tc .vmem S128x16x128 .f32 :=
  (oM.slice (Rect.unit (s := S2x128x16x128) off S1x128x16x128.size h) (fun _ => rfl)).squeeze S128x16x128 squeezes_S1x128x16x128_S128x16x128
abbrev aV (off : Fin 4 → ℕ) (h : ∀ a, off a + S1x128x16x128.size a ≤ S4x1024x16x128.size a) : Memref sig .tc .hbm S128x16x128 .f32 :=
  (aM.slice (Rect.unit (s := S4x1024x16x128) off S1x128x16x128.size h) (fun _ => rfl)).squeeze S128x16x128 squeezes_S1x128x16x128_S128x16x128
abbrev sV (off : Fin 3 → ℕ) (h : ∀ a, off a + S1x128x4096.size a ≤ S8x128x4096.size a) : Memref sig .tc .vmem S128x4096 .f32 :=
  (sM.slice (Rect.unit (s := S8x128x4096) off S1x128x4096.size h) (fun _ => rfl)).squeeze S128x4096 squeezes_S1x128x4096_S128x4096
abbrev yV (off : Fin 3 → ℕ) (h : ∀ a, off a + S1x128x4096.size a ≤ S8x128x4096.size a) : Memref sig .tc .hbm S128x4096 .f32 :=
  (yM.slice (Rect.unit (s := S8x128x4096) off S1x128x4096.size h) (fun _ => rfl)).squeeze S128x4096 squeezes_S1x128x4096_S128x4096
abbrev xV (off : Fin 3 → ℕ) (h : ∀ a, off a + S1x128x4096.size a ≤ S8x128x4096.size a) : Memref sig .tc .hbm S128x4096 .f32 :=
  (xM.slice (Rect.unit (s := S8x128x4096) off S1x128x4096.size h) (fun _ => rfl)).squeeze S128x4096 squeezes_S1x128x4096_S128x4096
abbrev dV (off : Fin 3 → ℕ) (h : ∀ a, off a + S1x128x4096.size a ≤ S2x128x4096.size a) : Memref sig .tc .vmem S128x4096 .f32 :=
  (dM.slice (Rect.unit (s := S2x128x4096) off S1x128x4096.size h) (fun _ => rfl)).squeeze S128x4096 squeezes_S1x128x4096_S128x4096
abbrev uV (off : Fin 3 → ℕ) (h : ∀ a, off a + S1x128x4096.size a ≤ S4x512x4096.size a) : Memref sig .tc .hbm S128x4096 .f32 :=
  (uM.slice (Rect.unit (s := S4x512x4096) off S1x128x4096.size h) (fun _ => rfl)).squeeze S128x4096 squeezes_S1x128x4096_S128x4096

/-- Slot `b` of the double buffer of input chunks. -/
abbrev oS (b : Fin 2) : Memref sig .tc .vmem S128x16x128 .f32 := oV ![b.val, 0, 0, 0] (o_inb b)
/-- Input chunk `n` of device `c`. -/
abbrev aS (c : Dev nD) (n : Fin 24) : Memref sig .tc .hbm S128x16x128 .f32 := aV (inOff c n) (inOff_inb c n)
/-- Slot `a` of the buffer of partial sums to send. -/
abbrev sS (a : Fin 8) : Memref sig .tc .vmem S128x4096 .f32 := sV ![a.val, 0, 0] (s_inb a)
/-- Slot `a` of the partial sums landed from across "y". -/
abbrev yS (a : Fin 8) : Memref sig .tc .hbm S128x4096 .f32 := yV ![a.val, 0, 0] (s_inb a)
/-- Slot `a` of the partial sums relayed from across "x". -/
abbrev xS (a : Fin 8) : Memref sig .tc .hbm S128x4096 .f32 := xV ![a.val, 0, 0] (s_inb a)
/-- Slot `b` of the double buffer of sums. -/
abbrev dS (b : Fin 2) : Memref sig .tc .vmem S128x4096 .f32 := dV ![b.val, 0, 0] (d_inb b)
/-- Output chunk `n` of device `c`. -/
abbrev uS (c : Dev nD) (n : Fin 16) : Memref sig .tc .hbm S128x4096 .f32 := uV (outOff c n) (outOff_inb c n)

/-! ## The semaphores -/

abbrev barS : Sem sig := (SemArray.scalar (sig.barrier 0 rfl) : Sems sig S_).sem
/-- Entry `⟨k⟩` of a semaphore array of two, and of eight. -/
abbrev sem2 (A : DmaSems sig S2) (off : Fin 1 → ℕ) (h : ∀ a, off a + S1.size a ≤ S2.size a) : DmaSem sig :=
  ((A.slice (Rect.unit (s := S2) off S1.size h)).squeeze S_ squeezes_S1_S_).sem
abbrev sem8 (A : DmaSems sig S8) (off : Fin 1 → ℕ) (h : ∀ a, off a + S1.size a ≤ S8.size a) : DmaSem sig :=
  ((A.slice (Rect.unit (s := S8) off S1.size h)).squeeze S_ squeezes_S1_S_).sem

/-- The semaphores of the copies inside a device: `0` the input chunks' loads, `1` the landed sums' loads, `2` the
    output chunks' stores; one for each slot of the double buffer. -/
@[reducible] def lQ (i : Fin 3) (b : Fin 2) : DmaSem sig :=
  ⟨(if i.val = 0 then 1 else 33 + 2 * i.val) + b.val, by have := b.isLt; have := i.isLt; show _ < 39; split <;> omega⟩
/-- The semaphores of the copies between devices: `0` a partial sum sent across "y", `1` one landed from there, `2` one
    relayed across "x", `3` one landed from there; one for each slot. -/
@[reducible] def tQ (j : Fin 4) (a : Fin 8) : DmaSem sig :=
  ⟨3 + 8 * j.val + a.val, by have := a.isLt; have := j.isLt; show _ < 39; omega⟩

theorem oQ_sem (b : Fin 2) (off : Fin 1 → ℕ) (h) (e : off = ![b.val]) : sem2 cc0_scratch3 off h = lQ 0 b := by subst e; revert b; decide
theorem ldQ_sem (b : Fin 2) (off : Fin 1 → ℕ) (h) (e : off = ![b.val]) : sem2 cc0_scratch8 off h = lQ 1 b := by subst e; revert b; decide
theorem stQ_sem (b : Fin 2) (off : Fin 1 → ℕ) (h) (e : off = ![b.val]) : sem2 cc0_scratch9 off h = lQ 2 b := by subst e; revert b; decide
theorem ysQ_sem (a : Fin 8) (off : Fin 1 → ℕ) (h) (e : off = ![a.val]) : sem8 cc0_scratch4 off h = tQ 0 a := by subst e; revert a; decide
theorem yrQ_sem (a : Fin 8) (off : Fin 1 → ℕ) (h) (e : off = ![a.val]) : sem8 cc0_scratch5 off h = tQ 1 a := by subst e; revert a; decide
theorem rlQ_sem (a : Fin 8) (off : Fin 1 → ℕ) (h) (e : off = ![a.val]) : sem8 cc0_scratch6 off h = tQ 2 a := by subst e; revert a; decide
theorem xrQ_sem (a : Fin 8) (off : Fin 1 → ℕ) (h) (e : off = ![a.val]) : sem8 cc0_scratch7 off h = tQ 3 a := by subst e; revert a; decide

/-- A slot's credit: what each chunk transfer adds to its semaphore and each wait takes. -/
@[irreducible] def N : ℕ := (yS 0).view.dmaCredit
theorem N_pos : 0 < N := by unfold N; exact View.dmaCredit_pos _ (by decide)
/-- An input chunk's credit. -/
@[irreducible] def NO : ℕ := (oS 0).view.dmaCredit
theorem NO_pos : 0 < NO := by unfold NO; exact View.dmaCredit_pos _ (by decide)

theorem N_o (off h) : (oV off h).view.dmaCredit = NO := by unfold NO; rfl
theorem N_y (off h) : (yV off h).view.dmaCredit = N := by unfold N; rfl
theorem N_x (off h) : (xV off h).view.dmaCredit = N := by unfold N; rfl
theorem N_s (off h) : (sV off h).view.dmaCredit = N := by unfold N; rfl
theorem N_d (off h) : (dV off h).view.dmaCredit = N := by unfold N; rfl
theorem N_u (off h) : (uV off h).view.dmaCredit = N := by unfold N; rfl

end Cert.K
-- ==== Proof.Protocol.lean ====
/-
# The protocol between the devices

Every cell of it has one round. A device's barrier cell takes one unit from each neighbour: the one across "y" hands
over its landing slots for partial sums, the one across "x" its landing slots for relayed sums. The cells of slot `a`:

* `0` (sent across "y"): the copy's source slot back, for the sender;
* `1` (landed from across "y"): slot `a` holding the neighbour's partial sum `a`;
* `2` (relayed across "x"): nothing;
* `3` (landed from across "x"): slot `a` holding partial sum `a` of the device across both axes.
-/
module

public import proofs.«01_k».proof.Proof.Places

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
/-- The pipeline library's copy, the devices' protocol, the counters of the copies inside a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER embR; infer_instance
example : (EC (F := F)).LandsIn (upEmb : UEmb _ 𝕄) := inferInstance

variable (m : (ℓ : Loc nD τ sig) → Buf (Elt F) ℓ)

/-! ## Contents -/

/-- Input chunk `n` of device `c`. -/
def oVal (c : Dev nD) (n : Fin 24) : S128x16x128.Idx → Elt F .f32 :=
  (aS c n).view.read (Elt F) (m ((c : Thread nD τ).loc main_arg0))
/-- Device `c`'s rows of `Wo`. -/
def wVal (c : Dev nD) : (cc0_stg0_0 : Ref sig .tc).ty.Contents (Elt F) :=
  (win0_0.blk (0 : Fin 1)).view.read (Elt F) (m ((c : Thread nD τ).loc main_arg1))

theorem sc4 : S128x16x128.ShapeCasts S1x128x16x128 := by decide
theorem sc3 : S128x4096.ShapeCasts S1x128x4096 := by decide
theorem sc3' : S1x128x4096.ShapeCasts S128x4096 := by decide

/-- A slot's contents as the vector a load of it gives, and a stored vector as the slot's contents. -/
def up4 (X : S128x16x128.Idx → Elt F .f32) : Vec F S1x128x16x128 .f32 := shapeCast S1x128x16x128 X sc4
def up3 (X : S128x4096.Idx → Elt F .f32) : Vec F S1x128x4096 .f32 := shapeCast S1x128x4096 X sc3
def dn3 (X : Vec F S1x128x4096 .f32) : S128x4096.Idx → Elt F .f32 := shapeCast S128x4096 X sc3'

/-- The index of input chunk `a` among those of phase `i`. -/
@[reducible] def ch (i : Fin 3) (a : Fin 8) : Fin 24 := ⟨8 * i.val + a.val, by have := a.isLt; have := i.isLt; omega⟩

/-- Partial sum `a` of device `c`: over its rows of `Wo`, the rows of the result its neighbour across "y" holds. -/
def sVal (c : Dev nD) (a : Fin 8) : S128x4096.Idx → Elt F .f32 := dn3 (k0_pay4 (up4 (oVal m c (ch 0 a))) (wVal m c))
/-- Output chunks of device `c`: its own sum added to the one landed from across "y", -/
def rVal1 (c : Dev nD) (a : Fin 8) : S128x4096.Idx → Elt F .f32 :=
  dn3 (k0_pay2 (k0_pay1 (up4 (oVal m c (ch 1 a)))) (wVal m c) (up3 (sVal m (py c) a)))
/-- and to the one relayed from across "x". -/
def rVal2 (c : Dev nD) (a : Fin 8) : S128x4096.Idx → Elt F .f32 :=
  dn3 (k0_pay3 (up4 (oVal m c (ch 2 a))) (wVal m c) (up3 (sVal m (py (px c)) a)))
/-- The contents of output chunk `n`. -/
def rVal (c : Dev nD) (n : Fin 16) : S128x4096.Idx → Elt F .f32 :=
  if h : n.val < 8 then rVal1 m c ⟨n.val, h⟩ else rVal2 m c ⟨n.val - 8, by have := n.isLt; omega⟩

/-- Some contents of a memref, owned. -/
def anyM (c : Dev nD) {sp : Space} {sh : Shape} {e : EltTy} (M : Memref sig .tc sp sh e) : sProp 𝕄 :=
  iprop(∃ X, owns (c : Thread nD τ) M fullShare X)
instance anyM_storable (c : Dev nD) {sp : Space} {sh : Shape} {e : EltTy} (M : Memref sig .tc sp sh e) :
    BI.Storable (upEmb : UEmb _ 𝕄) (anyM (F := F) c M) := by unfold anyM; infer_instance

/-! ## The cells -/

/-- The cells of the protocol: `none` the barrier, `some (j, a)` slot `a`'s of kind `j`. -/
abbrev CK : Type := Option (Fin 4 × Fin 8)
abbrev csem : CK → SemLoc sig
  | none => .reg barS
  | some (j, a) => .dma (tQ j a)
abbrev kcell (c : Dev nD) (k : CK) : GSem nD τ sig := ((c : Thread nD τ), csem k)
abbrev barCell (c : Dev nD) : GSem nD τ sig := ((c : Thread nD τ), .reg barS)
abbrev tCell (c : Dev nD) (j : Fin 4) (a : Fin 8) : GSem nD τ sig := ((c : Thread nD τ), .dma (tQ j a))

/-- Which of the protocol's cells a DMA semaphore is. -/
def kind (q : DmaSem sig) : CK :=
  if h : 3 ≤ q.val ∧ q.val < 35 then some (⟨(q.val - 3) / 8, by omega⟩, ⟨(q.val - 3) % 8, Nat.mod_lt _ (by decide)⟩) else none
theorem kind_tQ (j : Fin 4) (a : Fin 8) : kind (tQ j a) = some (j, a) := by revert j a; decide
theorem kind_lQ (i : Fin 3) (b : Fin 2) : kind (lQ i b) = none := by revert i b; decide
theorem kind_zero : kind (0 : DmaSem sig) = none := by decide

def tPay (c : Dev nD) : Fin 4 → Fin 8 → sProp 𝕄
  | 0, a => anyM c (sS a)
  | 1, a => owns (c : Thread nD τ) (yS a) fullShare (sVal m (py c) a)
  | 2, _ => iprop(emp)
  | 3, a => owns (c : Thread nD τ) (xS a) fullShare (sVal m (py (px c)) a)
instance tPay_storable (c : Dev nD) (j : Fin 4) (a : Fin 8) : BI.Storable (upEmb : UEmb _ 𝕄) (tPay m c j a) := by
  fin_cases j <;> (dsimp only [tPay]; infer_instance)

def barPay (c : Dev nD) (d : Bool) : sProp 𝕄 :=
  if d then bigSep Finset.univ (fun a : Fin 8 => anyM (px c) (xS a)) else bigSep Finset.univ (fun a : Fin 8 => anyM (py c) (yS a))
instance barPay_storable (c : Dev nD) (d : Bool) : BI.Storable (upEmb : UEmb _ 𝕄) (barPay (F := F) c d) := by
  unfold barPay; split <;> infer_instance

def amt : SemLoc sig → ℕ
  | .reg _ => 1
  | .dma _ => N
theorem amt_pos : ∀ s : SemLoc sig, 0 < amt s
  | .reg _ => Nat.one_pos
  | .dma _ => N_pos
def pay (c : Dev nD) (d : Bool) : SemLoc sig → sProp 𝕄
  | .reg _ => barPay c d
  | .dma q => match kind q with
    | some (j, a) => tPay m c j a
    | none => iprop(emp)
instance pay_storable (c : Dev nD) (d : Bool) (s : SemLoc sig) : BI.Storable (upEmb : UEmb _ 𝕄) (pay m c d s) := by
  unfold pay
  split
  · infer_instance
  · split <;> infer_instance

def Rd : Rounds.Schedule (GSem nD τ sig) Bool 𝕄 where
  duties g r := if r = 0 ∧ g.1.2 = .tc then (match g.2 with
    | .reg _ => Finset.univ
    | .dma q => if (kind q).isSome then {false} else ∅) else ∅
  unitless _ := False
  amount g _ _ := amt g.2
  payload g _ d := pay m g.1.1 d g.2
  amount_pos g _ _ _ := amt_pos g.2

instance Rd_payload_storable (g : GSem nD τ sig) (r : ℕ) (d : Bool) :
    BI.Storable (upEmb : UEmb _ 𝕄) ((Rd (F := F) m).payload g r d) :=
  pay_storable m g.1.1 d g.2

section Sched
variable (c : Dev nD) (j : Fin 4) (a : Fin 8)

theorem duties_bar : (Rd (F := F) m).duties (barCell c) 0 = Finset.univ := by dsimp only [Rd]; exact if_pos ⟨rfl, rfl⟩
theorem duties_t : (Rd (F := F) m).duties (tCell c j a) 0 = {false} := by
  dsimp only [Rd]; rw [if_pos ⟨rfl, rfl⟩, kind_tQ]; rfl
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_t (d : Bool) : (Rd (F := F) m).amount (tCell c j a) 0 d = N := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_t : (Rd (F := F) m).expect (tCell c j a) 0 = N := by
  unfold Schedule.expect Schedule.amountOf; rw [duties_t, Finset.sum_singleton, amount_t]
theorem payload_bar (d : Bool) : (Rd (F := F) m).payload (barCell c) 0 d = barPay c d := rfl
theorem payload_t (d : Bool) : (Rd (F := F) m).payload (tCell c j a) 0 d = tPay m c j a := by
  show pay m c d (.dma (tQ j a)) = _
  unfold pay; dsimp only; rw [kind_tQ]
theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_t : bigSep ((Rd (F := F) m).duties (tCell c j a) 0 \ ∅) (fun d => (Rd (F := F) m).payload (tCell c j a) 0 d) = tPay m c j a := by
  rw [Finset.sdiff_empty, duties_t, bigSep_singleton, payload_t]
end Sched

/-! ## What each device owes, and the levels -/

/-- The credits device `c` still owes the cells of kind `j` of device `d`: those of slots `k` on. -/
def ow (d : Dev nD) (j : Fin 4) (k : ℕ) : CellTallies nD τ sig Unit :=
  ∑ a : Fin 8, if k ≤ a.val then tallyAt (tCell d j a) () N else 0

theorem ow_step (d : Dev nD) (j : Fin 4) (a : Fin 8) : ow d j a.val = ow d j (a.val + 1) + tallyAt (tCell d j a) () N := by
  unfold ow
  rw [← Finset.add_sum_erase Finset.univ _ (Finset.mem_univ a), ← Finset.add_sum_erase (a := a) Finset.univ (fun b : Fin 8 => if a.val + 1 ≤ b.val then _ else _) (Finset.mem_univ a),
    if_pos le_rfl, if_neg (by omega), zero_add, add_comm]
  congr 1
  refine Finset.sum_congr rfl fun b hb => ?_
  have : b.val ≠ a.val := fun h => (Finset.ne_of_mem_erase hb) (Fin.ext h)
  by_cases h : a.val ≤ b.val
  · rw [if_pos h, if_pos (by omega)]
  · rw [if_neg h, if_neg (by omega)]

theorem ow_end (d : Dev nD) (j : Fin 4) : ow d j 8 = 0 := by
  unfold ow
  exact Finset.sum_eq_zero fun b _ => if_neg (by have := b.isLt; omega)

theorem ow_pos {d : Dev nD} {j : Fin 4} {k : ℕ} {g : GSem nD τ sig} {u : Unit} (h : 0 < ow d j k g u) : ∃ a, g = tCell d j a := by
  by_contra hn
  have hn' : ∀ a, g ≠ tCell d j a := fun a e => hn ⟨a, e⟩
  have : ow d j k g u = 0 := by
    unfold ow
    rw [Finset.sum_apply, Finsupp.finset_sum_apply]
    refine Finset.sum_eq_zero fun b _ => ?_
    split
    · rw [tallyAt_apply, if_neg (fun h' => hn' b h'.1)]
    · rfl
  omega

/-- At launch: a unit to each neighbour's barrier, and the slots' credits to each neighbour's landing cells. -/
def O₁ (c : Dev nD) : CellTallies nD τ sig Unit := ow (px c) 3 0 + ow (py c) 1 0
def O₀ (c : Dev nD) : CellTallies nD τ sig Unit := O₁ c + tallyAt (barCell (px c)) () 1 + tallyAt (barCell (py c)) () 1

def L (g : GSem nD τ sig) : Finset Unit := if g.1.2 = .tc then {()} else ∅
/-- Barrier cells at 1, the cells landed on from across "y" at 2, from across "x" at 3, everything else at 0. -/
def lv (g : GSem nD τ sig) (_ : Unit) : ℕ := match g.2 with
  | .reg _ => 1
  | .dma q => match kind q with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_y (c : Dev nD) (a : Fin 8) : lv (tCell c 1 a) () = 2 := by show (match kind _ with | some (1, _) => 2 | some (3, _) => 3 | _ => 0) = _; rw [kind_tQ]; rfl
theorem lv_x (c : Dev nD) (a : Fin 8) : lv (tCell c 3 a) () = 3 := by show (match kind _ with | some (1, _) => 2 | some (3, _) => 3 | _ => 0) = _; rw [kind_tQ]; rfl
theorem lv_0 (c : Dev nD) (a : Fin 8) : lv (tCell c 0 a) () = 0 := by show (match kind _ with | some (1, _) => 2 | some (3, _) => 3 | _ => 0) = _; rw [kind_tQ]; rfl
theorem lv_2 (c : Dev nD) (a : Fin 8) : lv (tCell c 2 a) () = 0 := by show (match kind _ with | some (1, _) => 2 | some (3, _) => 3 | _ => 0) = _; rw [kind_tQ]; rfl
theorem lv_none (c : Dev nD) (q : DmaSem sig) (h : kind q = none) : lv ((c : Thread nD τ), .dma q) () = 0 := by show (match kind q with | some (1, _) => 2 | some (3, _) => 3 | _ => 0) = _; rw [h]

/-- A wait on a cell below all that is owed. -/
theorem mayWait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- Owing only slots' credits of the two landing kinds, to whom and from where on does not matter. -/
theorem add_pos_cases {A B : CellTallies nD τ sig Unit} {g : GSem nD τ sig} {u : Unit} (h : 0 < (A + B) g u) : 0 < A g u ∨ 0 < B g u := by
  rw [Pi.add_apply, Finsupp.add_apply] at h; omega

theorem mayWait_xy (c : Dev nD) (sm : SemLoc sig) (hsm : lv ((c : Thread nD τ), sm) () < 2) (d d' : Dev nD) (k k' : ℕ) :
    (levAts L lv : sProp 𝕄) ⊢ MayWait (c : Thread nD τ) sm () (ow d 3 k + ow d' 1 k') :=
  mayWait_of c sm _ fun g u hg => by
    rcases add_pos_cases hg with h | h
    · obtain ⟨a, rfl⟩ := ow_pos h; exact ⟨rfl, by rw [lv_x]; omega⟩
    · obtain ⟨a, rfl⟩ := ow_pos h; exact ⟨rfl, by rw [lv_y]; omega⟩
theorem mayWait_x (c : Dev nD) (sm : SemLoc sig) (hsm : lv ((c : Thread nD τ), sm) () < 3) (d : Dev nD) (k : ℕ) :
    (levAts L lv : sProp 𝕄) ⊢ MayWait (c : Thread nD τ) sm () (ow d 3 k) :=
  mayWait_of c sm _ fun g u hg => by
    obtain ⟨a, rfl⟩ := ow_pos hg; exact ⟨rfl, by rw [lv_x]; omega⟩
theorem mayWait_O₀ (c : Dev nD) (sm : SemLoc sig) (hsm : lv ((c : Thread nD τ), sm) () = 0) :
    (levAts L lv : sProp 𝕄) ⊢ MayWait (c : Thread nD τ) sm () (O₀ c) :=
  mayWait_of c sm _ fun g u hg => by
    rw [hsm]
    have one : ∀ d : Dev nD, 0 < tallyAt (barCell d) () 1 g u → g.1.2 = .tc ∧ 0 < lv g () := fun d h => by
      rw [tallyAt_apply] at h
      by_cases h' : g = barCell d ∧ u = ()
      · rw [h'.1]; exact ⟨rfl, Nat.one_pos⟩
      · rw [if_neg h'] at h; exact absurd h (Nat.lt_irrefl 0)
    rcases add_pos_cases hg with h | h
    · rcases add_pos_cases h with h | h
      · rcases add_pos_cases h with h | h
        · obtain ⟨a, rfl⟩ := ow_pos h; exact ⟨rfl, by rw [lv_x]; omega⟩
        · obtain ⟨a, rfl⟩ := ow_pos h; exact ⟨rfl, by rw [lv_y]; omega⟩
      · exact one _ h
    · exact one _ h

end Cert.K
-- ==== Proof.Rules.lean ====
/-
# Rules for the kernel's operations

Each operation of the body as one rule over whole slots: a copy inside a device and its wait, a copy to a
neighbour and the waits on the protocol's cells, a load of a slot and a store into one.
-/
module

public import proofs.«01_k».proof.Proof.Protocol

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A copy inside device `c`, in flight on its semaphore `q`. -/
abbrev Fl (c : Dev nD) (q : DmaSem sig) (n : ℕ) (D : sProp 𝕄) : sProp 𝕄 := Flight EC (c : Thread nD τ) (.dma q) () n D
/-- A semaphore of device `c` at zero. -/
abbrev sz (c : Dev nD) (q : DmaSem sig) : sProp 𝕄 := semVal ((c : Thread nD τ), .dma q) 0

theorem Flight_frame {c : Thread nD τ} {sm : SemLoc sig} {n : ℕ} {D P : sProp 𝕄} :
    iprop(Flight EC c sm () n D ∗ P) ⊢ Flight EC c sm () n iprop(D ∗ P) := by
  unfold Flight
  iintro ⟨⟨⟨%R, HR, %hcap, %hpeek⟩, Hcred⟩, HP⟩
  isplitr [Hcred]
  · iexists iprop(R ∗ P)
    isplitl [HR HP]; · isplitl [HR] <;> iassumption
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HP⟩, HK⟩
      isplitl [HR]; · iexact HR
      iintro HR
      iapply HK
      isplitl [HR] <;> iassumption
  · iexact Hcred

section Rules
variable (c : Dev nD) {α : Type} {sp sp' : Space} {s : Shape} {e : EltTy}
  {k : PUnit → Prog (TpuEff nD τ sig (Elt F) Λ₀ .tc) α}

/-- A copy inside the device: the destination's contents do not matter. -/
theorem wp_copy {Q : α → sProp 𝕄} {src : Memref sig .tc sp s e} {dst : Memref sig .tc sp' s e} {q q' : DmaSem sig} (hq : q = q')
    {hsrc : src.view.WordExact} {hdst : dst.view.WordExact} {hsem : DmaTarget.Typed (nD := nD) (p := (c : Thread nD τ).2) sp (.dma q) (.here dst)}
    (n : ℕ) (hN : dst.view.dmaCredit = n) (hn : 0 < n) {sq : PosShare TreeShare} (X : s.Idx → Elt F e) :
    iprop(owns (c : Thread nD τ) src sq X ∗ anyM c dst ∗ sz c q')
      ⊢ iprop((Fl c q' n iprop(owns (c : Thread nD τ) dst fullShare X ∗ owns (c : Thread nD τ) src sq X) -∗ WP c (k ⟨⟩) Q)
          -∗ WP c (.op (.enqueueDma src (.here dst) (.dma q) hsrc hdst hsem) k) Q) := by
  subst hq
  unfold anyM owns
  iintro ⟨⟨%fs, %hfs, Hs⟩, ⟨%Y, %fd, -, Hd⟩, Hz⟩ Hk
  iapply (Transfers.wp_dmaLocal EC 𝒱₀ (c : Thread nD τ) none (sm := .dma q) () n hN hn Finset.Subset.rfl) $$ [Hs Hd Hz]
  · isplitl [Hs]; · iexact Hs
    isplitl [Hd] <;> iassumption
  iintro HF
  iapply Hk
  iapply (Flight_mono EC (c : Thread nD τ) ?_) $$ HF
  iintro ⟨Hd, Hs⟩
  isplitl [Hd]
  · iexists _
    isplitr; rotate_left
    · iexact Hd
    · ipureintro
      rw [View.read_write_univ]
      exact hfs
  · iexists fs
    isplitr; · ipureintro; exact hfs
    iexact Hs

/-- The same, where the program's views are known as slots. -/
theorem wp_copyT {Q : α → sProp 𝕄} {src src' : Memref sig .tc sp s e} (hs : src = src') {dst dst' : Memref sig .tc sp' s e} (hd : dst = dst') {q q' : DmaSem sig} (hq : q = q')
    {hsrc : src.view.WordExact} {hdst : dst.view.WordExact} {hsem : DmaTarget.Typed (nD := nD) (p := (c : Thread nD τ).2) sp (.dma q) (.here dst)}
    (n : ℕ) (hN : dst.view.dmaCredit = n) (hn : 0 < n) {sq : PosShare TreeShare} (X : s.Idx → Elt F e) :
    iprop(owns (c : Thread nD τ) src' sq X ∗ anyM c dst' ∗ sz c q')
      ⊢ iprop((Fl c q' n iprop(owns (c : Thread nD τ) dst' fullShare X ∗ owns (c : Thread nD τ) src' sq X) -∗ WP c (k ⟨⟩) Q)
          -∗ WP c (.op (.enqueueDma src (.here dst) (.dma q) hsrc hdst hsem) k) Q) := by
  subst hs; subst hd; exact wp_copy c hq n hN hn X

/-- The wait for a copy inside the device, while owing what lies above it. -/
theorem wp_wait {Q : α → sProp 𝕄} {src : Memref sig .tc sp s e} {sp'' : Space} {s' : Shape} {e' : EltTy} {dst : Memref sig .tc sp'' s' e'} {q q' : DmaSem sig} (hq : q = q')
    {hsrc : src.view.WordExact} {hdst : dst.view.WordExact}
    {n : ℕ} (hN : dst.view.dmaCredit = n) {D : sProp 𝕄} (O : CellTallies nD τ sig Unit)
    (hmw : (levAts L lv : sProp 𝕄) ⊢ MayWait (c : Thread nD τ) (.dma q') () O) :
    iprop(Fl c q' n D ∗ (∃ W, owes (c : Thread nD τ) O W) ∗ levAts L lv)
      ⊢ iprop((iprop(D ∗ sz c q' ∗ (∃ W, owes (c : Thread nD τ) O W)) -∗ WP c (k ⟨⟩) Q)
          -∗ WP c (.op (.waitDma2 q src dst hsrc hdst) k) Q) := by
  subst hq
  iintro ⟨HF, ⟨%W, HO⟩, Hl⟩ Hk
  iapply (Transfers.wp_waitLocalO EC 𝒱₀ (c : Thread nD τ) none () hN) $$ [HF HO Hl]
  · isplitl [HF]; · iexact HF
    isplitl [HO]; · iexact HO
    iapply hmw; iexact Hl
  iintro ⟨HD, Hz, HO⟩
  iapply Hk
  isplitl [HD]; · iexact HD
  isplitl [Hz]; · iexact Hz
  iexists _; iexact HO

/-- A load of a slot. -/
theorem wp_loadSq {Q : α → sProp 𝕄} {cs : CoreSpace} {M : Memref sig .tc cs s e} {r : Rect s} (hr : ∀ a, r.stride a = 1) {s' : Shape} (hsq : r.shape.Squeezes s')
    {hl : M.view.LoadsAt r.toLoadRect} (hsc : s'.ShapeCasts r.shape) {sq : PosShare TreeShare} (X : s'.Idx → Elt F e)
    {kl : (r.shape.Idx → Elt F e) → Prog (TpuEff nD τ sig (Elt F) Λ₀ .tc) α} :
    owns (c : Thread nD τ) ((M.slice r hr).squeeze s' hsq) sq X
      ⊢ iprop((owns (c : Thread nD τ) ((M.slice r hr).squeeze s' hsq) sq X -∗ WP c (kl (shapeCast r.shape X hsc)) Q)
          -∗ WP c (.op (.load M r.toLoadRect hl) kl) Q) := by
  unfold owns
  iintro ⟨%f, %hf, H⟩ Hk
  have hset : ((M.slice r hr).squeeze s' hsq).view.set = (M.access r).set := View.set_reshape _ _
  have hval : M.view.readAt (Elt F) r.toLoadRect f = shapeCast r.shape X hsc := by
    subst hf
    funext j
    show (M.access r).read (Elt F) f j = (M.access r).read (Elt F) f (Shape.reshapeEquiv _ (Shape.reshapeEquiv _ j))
    rw [Shape.reshapeEquiv_reshapeEquiv, Shape.reshapeEquiv_self]
  iapply (wp_load_rect 𝒱₀ (c : Thread nD τ) none Set.univ (m := M) (r := r) (S := ((M.slice r hr).squeeze s' hsq).view.set) (f := f) (by rw [hset])) $$ H
  iintro H
  ihave Hk' := Hk $$ [H]
  · iexists f
    isplitr; · ipureintro; exact hf
    iexact H
  rw [← hval]
  iexact Hk'

/-- A store into a slot. -/
theorem wp_storeSq {Q : α → sProp 𝕄} {cs : CoreSpace} {M : Memref sig .tc cs s e} {r : Rect s} (hr : ∀ a, r.stride a = 1) {s' : Shape} (hsq : r.shape.Squeezes s')
    (hsc : r.shape.ShapeCasts s') {w : r.shape.Idx → Elt F e}
    {hx : (M.access r).Stores Finset.univ} {hm : (Finset.univ : Finset r.shape.Idx) = Finset.univ ∨ ∀ a, r.stride a = 1} :
    anyM c ((M.slice r hr).squeeze s' hsq)
      ⊢ iprop((owns (c : Thread nD τ) ((M.slice r hr).squeeze s' hsq) fullShare (shapeCast s' w hsc) -∗ WP c (k ⟨⟩) Q)
          -∗ WP c (.op (.store M r w Finset.univ hx hm) k) Q) := by
  unfold anyM owns
  iintro ⟨%Y, %f, -, H⟩ Hk
  have hset : ((M.slice r hr).squeeze s' hsq).view.set = (M.access r).set := View.set_reshape _ _
  iapply (wp_store 𝒱₀ (c : Thread nD τ) none Set.univ (m := M) (r := r) (S := ((M.slice r hr).squeeze s' hsq).view.set) (f := f) (Mk := Finset.univ) (by rw [hset]; exact Finset.Subset.rfl)) $$ H
  iintro H
  iapply Hk
  iexists _
  isplitr; rotate_left
  · iexact H
  · ipureintro
    funext j
    show (M.access r).read (Elt F) ((M.access r).write (Elt F) f w Finset.univ) (Shape.reshapeEquiv _ j) = _
    rw [View.read_write_univ]
    rfl

end Rules

/-! ## The protocol's cells -/

/-- Every cell's invariant, and that every cell has reached its round. -/
def Rec : sProp 𝕄 :=
  iprop(∃ κ : Dev nD × CK → ℕ, (bigSep Finset.univ fun p : Dev nD × CK => cellInv ER (Rd m) (κ p) (kcell p.1 p.2))
    ∗ bigSep Finset.univ fun p : Dev nD × CK => reached ER (kcell p.1 p.2) 0)
instance Rec_persistent : BI.Persistent (Rec m) := by unfold Rec; infer_instance

theorem rec_get (p : Dev nD × CK) :
    Rec m ⊢ iprop(∃ κ : Dev nD × CK → ℕ, cellInv ER (Rd m) (κ p) (kcell p.1 p.2) ∗ reached ER (kcell p.1 p.2) 0) := by
  unfold Rec
  iintro ⟨%κ, HI, HR⟩
  iexists κ
  isplitl [HI]
  · iapply (show (bigSep Finset.univ (fun p : Dev nD × CK => cellInv ER (Rd m) (κ p) (kcell p.1 p.2)) : sProp 𝕄) ⊢ _ from bigSep_elim (Finset.mem_univ p)); iexact HI
  · iapply (show (bigSep Finset.univ (fun p : Dev nD × CK => reached ER (kcell p.1 p.2) 0) : sProp 𝕄) ⊢ _ from bigSep_elim (Finset.mem_univ p)); iexact HR

/-- The token of the one duty of a slot's cell. -/
abbrev tok (c : Dev nD) (j : Fin 4) (a : Fin 8) : sProp 𝕄 := dutyTok ER (tCell c j a) 0 false
/-- The owner's place at a slot's cell before its wait, and the credit it waits with. -/
abbrev pos (c : Dev nD) (j : Fin 4) (a : Fin 8) : sProp 𝕄 := atPos ER (tCell c j a) 0 ∅ 0
abbrev crd (c : Dev nD) (j : Fin 4) (a : Fin 8) : sProp 𝕄 := cred (tallyAt (tCell c j a) () N)

theorem mayWait_0 (c : Dev nD) (sm : SemLoc sig) : (levAts L lv : sProp 𝕄) ⊢ MayWait (c : Thread nD τ) sm () 0 := by
  rw [MayWait_zero]; iintro -; iempintro

section Cells
variable (c : Dev nD) {α : Type} {sp sp' : Space} {s : Shape} {e : EltTy}
  {k : PUnit → Prog (TpuEff nD τ sig (Elt F) Λ₀ .tc) α}

/-- A copy of a slot to device `d`, paying this device's send cell and `d`'s receive cell. -/
theorem wp_sendT {Q : α → sProp 𝕄} (j₁ j₂ : Fin 4) (a : Fin 8) (d : Dev nD) {n : Dev nD} (hn : n = d)
    {src src' : Memref sig .tc sp s e} (hs : src = src') {dst : Memref sig (Dev.tc n : Thread nD τ).2.kind sp' s e} {dst' : Memref sig .tc sp' s e} (hd : dst = dst')
    {qs qr : DmaSem sig} (hqs : qs = tQ j₁ a) (hqr : qr = tQ j₂ a)
    {hsc : dst.view.ref.isScScratch = false} {hsrc : src.view.WordExact} {hdst : dst.view.WordExact}
    {hsem : DmaTarget.Typed (p := (c : Thread nD τ).2) sp (.dma qr) (.remote (Dev.tc n : Thread nD τ) dst (.dma qs) hsc)}
    (hN : dst'.view.dmaCredit = N) {sq : PosShare TreeShare} (X : s.Idx → Elt F e)
    (hp₁ : owns (c : Thread nD τ) src' sq X ⊢ tPay m c j₁ a) (hp₂ : owns (d : Thread nD τ) dst' fullShare X ⊢ tPay m d j₂ a)
    (O O₀ : CellTallies nD τ sig Unit) (hO : O₀ = O + tallyAt (tCell d j₂ a) () N) :
    iprop(Rec m ∗ owns (c : Thread nD τ) src' sq X ∗ anyM d dst' ∗ (∃ W, owes (c : Thread nD τ) O₀ W) ∗ tok c j₁ a ∗ tok d j₂ a)
      ⊢ iprop((iprop(crd c j₁ a ∗ (∃ W, owes (c : Thread nD τ) O W)) -∗ WP c (k ⟨⟩) Q)
          -∗ WP c (.op (.enqueueDma src (.remote (Dev.tc n : Thread nD τ) dst (.dma qs) hsc) (.dma qr) hsrc hdst hsem) k) Q) := by
  subst hn; subst hs; subst hd; subst hqs; subst hqr
  unfold anyM owns
  iintro ⟨#HR, ⟨%fs, %hfs, Hs⟩, ⟨%Y, %fd, -, Hd⟩, ⟨%W, HO⟩, Ht1, Ht2⟩ Hk
  ihave H1 := (rec_get m (c, some (j₁, a))) $$ HR
  icases H1 with ⟨%κ₁, #HI1, #HR1⟩
  ihave H2 := (rec_get m (n, some (j₂, a))) $$ HR
  icases H2 with ⟨%κ₂, #HI2, #HR2⟩
  iapply (Rounds.wp_send_pointsTo 𝒱₀ ER (Rd m) (c : Thread nD τ) none (κ₁ := κ₁ (c, some (j₁, a))) (κ₂ := κ₂ (n, some (j₂, a)))
    (sem := .dma (tQ j₂ a)) (r₁ := 0) (r₂ := 0) (d₁ := false) (d₂ := false) (fs := fs) (fd := fd) (q := sq)
    (by rw [duties_t]; exact Finset.mem_singleton_self _) (by rw [duties_t]; exact Finset.mem_singleton_self _)
    () () N hN (amount_t m c j₁ a false) (amount_t m n j₂ a false) O hO (W := W)
    (by rw [payload_t]; refine BIBase.Entails.trans ?_ hp₁; unfold owns; iintro H; iexists fs; isplitr; (ipureintro; exact hfs); iexact H)
    (by rw [payload_t]; refine BIBase.Entails.trans ?_ hp₂; unfold owns; iintro H; iexists _; isplitr; rotate_left; (iexact H); ipureintro; rw [View.read_write_univ]; exact hfs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists _; iexact HO

/-- What each copy pays is what its cells' duties ask. -/
theorem pay_ys (a : Fin 8) (X : S128x4096.Idx → Elt F .f32) : owns (c : Thread nD τ) (sS a) fullShare X ⊢ tPay m c 0 a := by
  show _ ⊢ anyM c (sS a)
  unfold anyM; iintro H; iexists _; iexact H
theorem pay_yr (a : Fin 8) : owns ((py c : Dev nD) : Thread nD τ) (yS a) fullShare (sVal m c a) ⊢ tPay m (py c) 1 a := by
  show _ ⊢ owns ((py c : Dev nD) : Thread nD τ) (yS a) fullShare (sVal m (py (py c)) a)
  rw [py_py]
theorem pay_rl (a : Fin 8) (P : sProp 𝕄) : P ⊢ tPay m c 2 a := by
  show _ ⊢ iprop(emp)
  iintro -; iempintro
theorem pay_xr (a : Fin 8) : owns ((px c : Dev nD) : Thread nD τ) (xS a) fullShare (sVal m (py c) a) ⊢ tPay m (px c) 3 a := by
  show _ ⊢ owns ((px c : Dev nD) : Thread nD τ) (xS a) fullShare (sVal m (py (px (px c))) a)
  rw [px_px]

/-- The wait on a slot's cell, which then closes. -/
theorem wp_waitT {Q : α → sProp 𝕄} (j : Fin 4) (a : Fin 8) {src : Memref sig .tc sp s e} {sp'' : Space} {s' : Shape} {e' : EltTy} {dst : Memref sig .tc sp'' s' e'}
    {q : DmaSem sig} (hq : q = tQ j a) {hsrc : src.view.WordExact} {hdst : dst.view.WordExact}
    (hN : dst.view.dmaCredit = N) (O : CellTallies nD τ sig Unit)
    (hmw : (levAts L lv : sProp 𝕄) ⊢ MayWait (c : Thread nD τ) (.dma (tQ j a)) () O) :
    iprop(Rec m ∗ levAts L lv ∗ pos c j a ∗ crd c j a ∗ (∃ W, owes (c : Thread nD τ) O W))
      ⊢ iprop((iprop(tPay m c j a ∗ sz c (tQ j a) ∗ (∃ W, owes (c : Thread nD τ) O W)) -∗ WP c (k ⟨⟩) Q)
          -∗ WP c (.op (.waitDma2 q src dst hsrc hdst) k) Q) := by
  subst hq
  iintro ⟨#HR, #Hl, Hat, Hc, ⟨%W, HO⟩⟩ Hk
  ihave H1 := (rec_get m (c, some (j, a))) $$ HR
  icases H1 with ⟨%κ, #HI, -⟩
  iapply (Rounds.wp_wait_rest_token 𝒱₀ ER (Rd m) (c : Thread nD τ) none (κ := κ (c, some (j, a)))
      (wpE_waitDma2_eq 𝒱₀ (c : Thread nD τ) none Set.univ) (Set.mem_univ _) () (O := O) (W := W) (R := 0) (m := 0) (T := ∅)
      (by rw [Nat.zero_add, hN, expect_t])) $$ [Hc HO Hat]
  · isplitr; · iexact HI
    isplitl [Hc]; · rw [hN]; iexact Hc
    isplitl [HO]; · iexact HO
    isplitr; · iapply hmw; iexact Hl
    iexact Hat
  iintro ⟨HO, Hat, -, Hpay⟩
  ihave Hp := (Entails.of_eq (rest_t m c j a)) $$ Hpay
  imod (Rounds.cell_close ER (Rd m) (Set.mem_univ (κ (c, some (j, a)))) (fun h => h) (R := 0 + 1) (duties_later m (tCell c j a))) $$ [Hat] with Hz
  · isplitr; · iexact HI
    iexact Hat
  iapply Hk
  isplitl [Hp]; · iexact Hp
  isplitl [Hz]; · iexact Hz
  iexists _; iexact HO

end Cells

/-! ## The input chunks -/

/-- The device's whole input, at its contents. -/
def aPts (c : Dev nD) : sProp 𝕄 := ((c : Thread nD τ).loc main_arg0) ↦{fullShare} (m ((c : Thread nD τ).loc main_arg0))
/-- The load of input chunk `n` in flight into its slot. -/
def OFl (c : Dev nD) (n : Fin 24) : sProp 𝕄 :=
  Fl c (lQ 0 (par n.val)) NO iprop(owns (c : Thread nD τ) (oS (par n.val)) fullShare (oVal m c n) ∗ aPts m c)

section Input
variable (c : Dev nD) {α : Type} {k : PUnit → Prog (TpuEff nD τ sig (Elt F) Λ₀ .tc) α}

theorem wp_startO {Q : α → sProp 𝕄} (n : Fin 24) {src : Memref sig .tc .hbm S128x16x128 .f32} {dst : Memref sig .tc .vmem S128x16x128 .f32} {q : DmaSem sig}
    (hs : src = aS c n) (hd : dst = oS (par n.val)) (hq : q = lQ 0 (par n.val))
    {hsrc : src.view.WordExact} {hdst : dst.view.WordExact} {hsem : DmaTarget.Typed (nD := nD) (p := (c : Thread nD τ).2) .hbm (.dma q) (.here dst)} :
    iprop(aPts m c ∗ anyM c (oS (par n.val)) ∗ sz c (lQ 0 (par n.val)))
      ⊢ iprop((OFl m c n -∗ WP c (k ⟨⟩) Q) -∗ WP c (.op (.enqueueDma src (.here dst) (.dma q) hsrc hdst hsem) k) Q) := by
  subst hs; subst hd; subst hq
  unfold anyM aPts owns
  iintro ⟨Ha, ⟨%Y, %fd, -, Hd⟩, Hz⟩ Hk
  ihave Ha' := (pointsTo_split_subset (S := Finset.univ) (Finset.subset_univ (aS c n).view.set)).1 $$ Ha
  icases Ha' with ⟨Hs, Hrest⟩
  iapply (Transfers.wp_dmaLocal EC 𝒱₀ (c : Thread nD τ) none (sm := .dma (lQ 0 (par n.val))) (src := aS c n) (dst := oS (par n.val)) () NO (N_o _ _) NO_pos Finset.Subset.rfl) $$ [Hs Hd Hz]
  · isplitl [Hs]; · iexact Hs
    isplitl [Hd] <;> iassumption
  iintro HF
  iapply Hk
  ihave HF' := Flight_frame $$ [HF Hrest]
  · isplitl [HF]; · iexact HF
    iexact Hrest
  unfold OFl aPts owns
  iapply (Flight_mono EC (c : Thread nD τ) ?_) $$ HF'
  iintro ⟨⟨Hd, Hs⟩, Hrest⟩
  isplitl [Hd]
  · iexists _
    isplitr; rotate_left
    · iexact Hd
    · ipureintro
      rw [View.read_write_univ]
      rfl
  · iapply (pointsTo_split_subset (S := Finset.univ) (Finset.subset_univ (aS c n).view.set)).2
    isplitl [Hs] <;> iassumption

/-- The wait for an input chunk. -/
theorem wp_waitO {Q : α → sProp 𝕄} (n : Fin 24) {sp : Space} {s : Shape} {e : EltTy} {src : Memref sig .tc sp s e} {dst : Memref sig .tc .vmem S128x16x128 .f32} {q : DmaSem sig}
    (hq : q = lQ 0 (par n.val)) {hsrc : src.view.WordExact} {hdst : dst.view.WordExact} (hN : dst.view.dmaCredit = NO) (O : CellTallies nD τ sig Unit)
    (hmw : (levAts L lv : sProp 𝕄) ⊢ MayWait (c : Thread nD τ) (.dma (lQ 0 (par n.val))) () O) :
    iprop(OFl m c n ∗ (∃ W, owes (c : Thread nD τ) O W) ∗ levAts L lv)
      ⊢ iprop((iprop(owns (c : Thread nD τ) (oS (par n.val)) fullShare (oVal m c n) ∗ aPts m c ∗ sz c (lQ 0 (par n.val)) ∗ (∃ W, owes (c : Thread nD τ) O W)) -∗ WP c (k ⟨⟩) Q)
          -∗ WP c (.op (.waitDma2 q src dst hsrc hdst) k) Q) := by
  unfold OFl
  iintro H Hk
  iapply (wp_wait c hq hN O hmw) $$ H
  iintro ⟨⟨Ho, Ha⟩, Hz, HO⟩
  iapply Hk
  isplitl [Ho]; · iexact Ho
  isplitl [Ha]; · iexact Ha
  isplitl [Hz] <;> iassumption

/-- The staged rows of `Wo`, whole. -/
def wPts (c : Dev nD) : sProp 𝕄 := ((c : Thread nD τ).loc cc0_stg0_0) ↦{fullShare} (wVal m c)

theorem hz2 : (![0, 0] : Fin 2 → Nat) = fun _ => 0 := funext fun a => by fin_cases a <;> rfl

theorem wp_loadW {Q : α → sProp 𝕄} {h : ∀ a, (![0, 0] : Fin 2 → ℕ) a + S2048x4096.size a ≤ S2048x4096.size a}
    {hl : wM.view.LoadsAt (Rect.unit (s := S2048x4096) ![0, 0] S2048x4096.size h).toLoadRect}
    {kl : (S2048x4096.Idx → Elt F .f32) → Prog (TpuEff nD τ sig (Elt F) Λ₀ .tc) α} :
    wPts m c ⊢ iprop((wPts m c -∗ WP c (kl (wVal m c)) Q) -∗ WP c (.op (.load wM (Rect.unit (s := S2048x4096) ![0, 0] S2048x4096.size h).toLoadRect hl) kl) Q) := by
  unfold wPts
  iintro H Hk
  have hv : wM.view.readAt (Elt F) (Rect.unit (s := S2048x4096) ![0, 0] S2048x4096.size h).toLoadRect (wVal m c) = wVal m c :=
    Memref.readAt_unit_zero (Elt F) cc0_stg0_0 hz2 _ _
  iapply (wp_load 𝒱₀ (c : Thread nD τ) none Set.univ (m := wM) (S := Finset.univ) (f := wVal m c) (Finset.subset_univ _)) $$ H
  iintro H
  ihave Hk' := Hk $$ H
  rw [hv]
  iexact Hk'

end Input

/-- One member of a family, and what putting it back changed makes of the family. -/
theorem take_step {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  have e (Θ : I → sProp 𝕄) : bigSep Finset.univ Θ = iprop(Θ i ∗ bigSep (Finset.univ.erase i) Θ) := BI.bigSep_univ_split i
  rw [e Φ, e Ψ, bigSep_congr (s := Finset.univ.erase i) (Φ := Φ) (Ψ := Ψ) fun j hj => h j (Finset.ne_of_mem_erase hj)]
  iintro ⟨Hi, Hr⟩
  isplitl [Hi]; · iexact Hi
  iintro Hi
  isplitl [Hi] <;> iassumption

end Cert.K
-- ==== Proof.States.lean ====
/-
# What a device holds between its steps

The double buffer of input chunks, the double buffer of sums and the output chunks, and families of eight slots of
which the first so many are through.
-/
module

public import proofs.«01_k».proof.Proof.Rules

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

/-! ## Families -/

/-- Of `n` members, the first `k` are through. -/
def fam {n : ℕ} (k : ℕ) (P Q : Fin n → sProp 𝕄) : sProp 𝕄 := bigSep Finset.univ fun a => if a.val < k then P a else Q a

theorem fam_take {n : ℕ} (a : Fin n) (P Q : Fin n → sProp 𝕄) : fam a.val P Q ⊢ iprop(Q a ∗ (P a -∗ fam (a.val + 1) P Q)) := by
  unfold fam
  have h := take_step a (Φ := fun b : Fin n => if b.val < a.val then P b else Q b) (Ψ := fun b : Fin n => if b.val < a.val + 1 then P b else Q b)
    fun b hb => by
      have : b.val ≠ a.val := fun h => hb (Fin.ext h)
      by_cases h : b.val < a.val
      · rw [if_pos h, if_pos (by omega)]
      · rw [if_neg h, if_neg (by omega)]
  rw [if_neg (Nat.lt_irrefl _), if_pos (Nat.lt_succ_self _)] at h
  exact h
theorem fam_zero {n : ℕ} (P Q : Fin n → sProp 𝕄) : fam 0 P Q = bigSep Finset.univ Q :=
  bigSep_congr fun a _ => if_neg (Nat.not_lt_zero _)
theorem fam_all {n : ℕ} (k : ℕ) (hk : n ≤ k) (P Q : Fin n → sProp 𝕄) : fam k P Q = bigSep Finset.univ P :=
  bigSep_congr fun a _ => if_pos (lt_of_lt_of_le a.isLt hk)

theorem par_two (n : ℕ) : par (n + 1 + 1) = par n := Fin.ext (by show (n + 1 + 1) % 2 = n % 2; omega)
theorem vec1 {a b : ℕ} (h : a = b) : (![a] : Fin 1 → ℕ) = ![b] := by rw [h]
theorem vec3 {a b : ℕ} (h : a = b) : (![a, 0, 0] : Fin 3 → ℕ) = ![b, 0, 0] := by rw [h]
theorem vec4 {a b : ℕ} (h : a = b) : (![a, 0, 0, 0] : Fin 4 → ℕ) = ![b, 0, 0, 0] := by rw [h]

theorem oV_eq {off : Fin 4 → ℕ} {h} (b : Fin 2) (e : off = ![b.val, 0, 0, 0]) : oV off h = oS b := by subst e; rfl
theorem aV_eq {off : Fin 4 → ℕ} {h} (c : Dev nD) (n : Fin 24) (e : off = inOff c n) : aV off h = aS c n := by subst e; rfl
theorem sV_eq {off : Fin 3 → ℕ} {h} (a : Fin 8) (e : off = ![a.val, 0, 0]) : sV off h = sS a := by subst e; rfl
theorem yV_eq {off : Fin 3 → ℕ} {h} (a : Fin 8) (e : off = ![a.val, 0, 0]) : yV off h = yS a := by subst e; rfl
theorem xV_eq {off : Fin 3 → ℕ} {h} (a : Fin 8) (e : off = ![a.val, 0, 0]) : xV off h = xS a := by subst e; rfl
theorem dV_eq {off : Fin 3 → ℕ} {h} (b : Fin 2) (e : off = ![b.val, 0, 0]) : dV off h = dS b := by subst e; rfl
theorem uV_eq {off : Fin 3 → ℕ} {h} (c : Dev nD) (n : Fin 16) (e : off = outOff c n) : uV off h = uS c n := by subst e; rfl

/-! ## Loads and stores of slots -/

section Slots
variable (c : Dev nD) {α : Type}

theorem wp_loadO {Q : α → sProp 𝕄} (b : Fin 2) {off h} (e : off = ![b.val, 0, 0, 0])
    {hl : oM.view.LoadsAt (Rect.unit (s := S2x128x16x128) off S1x128x16x128.size h).toLoadRect} {sq : PosShare TreeShare} (X : S128x16x128.Idx → Elt F .f32)
    {kl : Vec F S1x128x16x128 .f32 → Prog (TpuEff nD τ sig (Elt F) Λ₀ .tc) α} :
    owns (c : Thread nD τ) (oS b) sq X ⊢ iprop((owns (c : Thread nD τ) (oS b) sq X -∗ WP c (kl (up4 X)) Q)
      -∗ WP c (.op (.load oM (Rect.unit (s := S2x128x16x128) off S1x128x16x128.size h).toLoadRect hl) kl) Q) := by
  subst e; exact wp_loadSq c (fun _ => rfl) squeezes_S1x128x16x128_S128x16x128 sc4 X
theorem wp_loadS {Q : α → sProp 𝕄} (a : Fin 8) {off h} (e : off = ![a.val, 0, 0])
    {hl : sM.view.LoadsAt (Rect.unit (s := S8x128x4096) off S1x128x4096.size h).toLoadRect} {sq : PosShare TreeShare} (X : S128x4096.Idx → Elt F .f32)
    {kl : Vec F S1x128x4096 .f32 → Prog (TpuEff nD τ sig (Elt F) Λ₀ .tc) α} :
    owns (c : Thread nD τ) (sS a) sq X ⊢ iprop((owns (c : Thread nD τ) (sS a) sq X -∗ WP c (kl (up3 X)) Q)
      -∗ WP c (.op (.load sM (Rect.unit (s := S8x128x4096) off S1x128x4096.size h).toLoadRect hl) kl) Q) := by
  subst e; exact wp_loadSq c (fun _ => rfl) squeezes_S1x128x4096_S128x4096 sc3 X
theorem wp_loadD {Q : α → sProp 𝕄} (b : Fin 2) {off h} (e : off = ![b.val, 0, 0])
    {hl : dM.view.LoadsAt (Rect.unit (s := S2x128x4096) off S1x128x4096.size h).toLoadRect} {sq : PosShare TreeShare} (X : S128x4096.Idx → Elt F .f32)
    {kl : Vec F S1x128x4096 .f32 → Prog (TpuEff nD τ sig (Elt F) Λ₀ .tc) α} :
    owns (c : Thread nD τ) (dS b) sq X ⊢ iprop((owns (c : Thread nD τ) (dS b) sq X -∗ WP c (kl (up3 X)) Q)
      -∗ WP c (.op (.load dM (Rect.unit (s := S2x128x4096) off S1x128x4096.size h).toLoadRect hl) kl) Q) := by
  subst e; exact wp_loadSq c (fun _ => rfl) squeezes_S1x128x4096_S128x4096 sc3 X

variable {k : PUnit → Prog (TpuEff nD τ sig (Elt F) Λ₀ .tc) α}

theorem wp_storeS {Q : α → sProp 𝕄} (a : Fin 8) {off h} (e : off = ![a.val, 0, 0]) (w : Vec F S1x128x4096 .f32)
    {hx : (sM.access (Rect.unit (s := S8x128x4096) off S1x128x4096.size h)).Stores Finset.univ} {hm} :
    anyM c (sS a) ⊢ iprop((owns (c : Thread nD τ) (sS a) fullShare (dn3 w) -∗ WP c (k ⟨⟩) Q)
      -∗ WP c (.op (.store sM (Rect.unit (s := S8x128x4096) off S1x128x4096.size h) w Finset.univ hx hm) k) Q) := by
  subst e; exact wp_storeSq c (fun _ => rfl) squeezes_S1x128x4096_S128x4096 sc3'
theorem wp_storeD {Q : α → sProp 𝕄} (b : Fin 2) {off h} (e : off = ![b.val, 0, 0]) (w : Vec F S1x128x4096 .f32)
    {hx : (dM.access (Rect.unit (s := S2x128x4096) off S1x128x4096.size h)).Stores Finset.univ} {hm} :
    anyM c (dS b) ⊢ iprop((owns (c : Thread nD τ) (dS b) fullShare (dn3 w) -∗ WP c (k ⟨⟩) Q)
      -∗ WP c (.op (.store dM (Rect.unit (s := S2x128x4096) off S1x128x4096.size h) w Finset.univ hx hm) k) Q) := by
  subst e; exact wp_storeSq c (fun _ => rfl) squeezes_S1x128x4096_S128x4096 sc3'

end Slots

/-! ## The double buffer of input chunks -/

/-- The load of chunk `n` in flight; past the last chunk its slot and the input idle. -/
def OCur (c : Dev nD) (n : ℕ) : sProp 𝕄 :=
  if h : n < 24 then OFl m c ⟨n, h⟩ else iprop(anyM c (oS (par n)) ∗ sz c (lQ 0 (par n)) ∗ aPts m c)
/-- Before chunk `n` is waited for: the other slot is idle. -/
def OSt (c : Dev nD) (n : ℕ) : sProp 𝕄 := iprop(anyM c (oS (par (n + 1))) ∗ sz c (lQ 0 (par (n + 1))) ∗ OCur m c n)
/-- While chunk `n` is used: the next one is on its way. -/
def OHave (c : Dev nD) (n : Fin 24) : sProp 𝕄 :=
  iprop(owns (c : Thread nD τ) (oS (par n.val)) fullShare (oVal m c n) ∗ sz c (lQ 0 (par n.val)) ∗ OCur m c (n.val + 1))

theorem o_release (c : Dev nD) (n : Fin 24) : OHave m c n ⊢ OSt m c (n.val + 1) := by
  unfold OHave OSt anyM
  rw [par_two]
  iintro ⟨Ho, Hz, Hc⟩
  isplitl [Ho]; · iexists _; iexact Ho
  isplitl [Hz] <;> iassumption

/-! ## The double buffer of sums and the output chunks -/

/-- The slot output chunk `k` goes through: idle at the start, later with the store of chunk `k - 2` in flight. -/
def St (c : Dev nD) (k : ℕ) : sProp 𝕄 :=
  if h : 2 ≤ k ∧ k < 18 then
    Fl c (lQ 2 (par k)) N iprop(owns (c : Thread nD τ) (uS c ⟨k - 2, by omega⟩) fullShare (rVal m c ⟨k - 2, by omega⟩) ∗ anyM c (dS (par k)))
  else iprop(sz c (lQ 2 (par k)) ∗ anyM c (dS (par k)))

/-- Output chunks of which no store has started, -/
def UTodo (c : Dev nD) (k : ℕ) : sProp 𝕄 := fam (n := 16) k (fun _ => iprop(emp)) fun n => anyM c (uS c n)
/-- and output chunks whose store has landed. -/
def UDone (c : Dev nD) (k : ℕ) : sProp 𝕄 := fam (n := 16) (k - 2) (fun n => owns (c : Thread nD τ) (uS c n) fullShare (rVal m c n)) fun _ => iprop(emp)

/-- Before output chunk `k` is dealt with. -/
def RSt (c : Dev nD) (k : ℕ) : sProp 𝕄 :=
  iprop(St m c k ∗ St m c (k + 1) ∗ UTodo c k ∗ UDone m c k ∗ sz c (lQ 1 (par k)) ∗ sz c (lQ 1 (par (k + 1))))

/-- Nothing is in flight through the first two chunks' slots. -/
theorem st_early (c : Dev nD) (k : ℕ) (hk : k < 2) : iprop(St m c k ∗ UDone m c k) ⊢ iprop(sz c (lQ 2 (par k)) ∗ anyM c (dS (par k)) ∗ UDone m c (k + 1)) := by
  unfold St UDone
  rw [dif_neg (by omega), show k - 2 = k + 1 - 2 by omega]
  iintro ⟨⟨Hz, Hd⟩, HU⟩
  isplitl [Hz]; · iexact Hz
  isplitl [Hd] <;> iassumption

section Stores
variable (c : Dev nD) {α : Type} {sp sp' : Space} {s s' : Shape} {e e' : EltTy} {k : PUnit → Prog (TpuEff nD τ sig (Elt F) Λ₀ .tc) α}

/-- The wait for the store of output chunk `j - 2`. -/
theorem wp_waitSt {Q : α → sProp 𝕄} (j : ℕ) (hj : 2 ≤ j ∧ j < 18) {src : Memref sig .tc sp s e} {dst : Memref sig .tc sp' s' e'} {q : DmaSem sig} (hq : q = lQ 2 (par j))
    {hsrc : src.view.WordExact} {hdst : dst.view.WordExact} (hN : dst.view.dmaCredit = N) (O : CellTallies nD τ sig Unit)
    (hmw : (levAts L lv : sProp 𝕄) ⊢ MayWait (c : Thread nD τ) (.dma (lQ 2 (par j))) () O) :
    iprop(St m c j ∗ UDone m c j ∗ (∃ W, owes (c : Thread nD τ) O W) ∗ levAts L lv)
      ⊢ iprop((iprop(sz c (lQ 2 (par j)) ∗ anyM c (dS (par j)) ∗ UDone m c (j + 1) ∗ (∃ W, owes (c : Thread nD τ) O W)) -∗ WP c (k ⟨⟩) Q)
          -∗ WP c (.op (.waitDma2 q src dst hsrc hdst) k) Q) := by
  obtain ⟨i, rfl⟩ : ∃ i, j = i + 2 := ⟨j - 2, by omega⟩
  unfold St UDone
  rw [dif_pos hj]
  simp only [Nat.add_sub_cancel, show i + 2 + 1 - 2 = i + 1 by omega]
  iintro ⟨HF, HU, HO, Hl⟩ Hk
  iapply (wp_wait c hq hN O hmw) $$ [HF HO Hl]
  · isplitl [HF]; · iexact HF
    isplitl [HO] <;> iassumption
  iintro ⟨⟨Hu, Hd⟩, Hz, HO⟩
  ihave HU' := (fam_take (⟨i, by omega⟩ : Fin 16) (fun n => owns (c : Thread nD τ) (uS c n) fullShare (rVal m c n)) (fun _ => iprop(emp))) $$ HU
  icases HU' with ⟨-, HU⟩
  iapply Hk
  isplitl [Hz]; · iexact Hz
  isplitl [Hd]; · iexact Hd
  isplitl [HU Hu]; · iapply HU; iexact Hu
  iexact HO

/-- The start of the store of output chunk `j`. -/
theorem wp_startSt {Q : α → sProp 𝕄} (j : Fin 16) {src : Memref sig .tc .vmem S128x4096 .f32} {dst : Memref sig .tc .hbm S128x4096 .f32} {q : DmaSem sig}
    (hs : src = dS (par j.val)) (hd : dst = uS c j) (hq : q = lQ 2 (par j.val))
    {hsrc : src.view.WordExact} {hdst : dst.view.WordExact} {hsem : DmaTarget.Typed (nD := nD) (p := (c : Thread nD τ).2) .vmem (.dma q) (.here dst)} :
    iprop(owns (c : Thread nD τ) (dS (par j.val)) fullShare (rVal m c j) ∗ UTodo c j.val ∗ sz c (lQ 2 (par j.val)))
      ⊢ iprop((iprop(St m c (j.val + 1 + 1) ∗ UTodo c (j.val + 1)) -∗ WP c (k ⟨⟩) Q) -∗ WP c (.op (.enqueueDma src (.here dst) (.dma q) hsrc hdst hsem) k) Q) := by
  subst hs; subst hd
  have hj := j.isLt
  unfold St UTodo
  rw [dif_pos (by omega), par_two]
  iintro ⟨Hd, HU, Hz⟩ Hk
  ihave HU' := (fam_take j (fun _ => iprop(emp)) (fun n => anyM c (uS c n))) $$ HU
  icases HU' with ⟨Hu, HU⟩
  iapply (wp_copy c hq N (N_u _ _) N_pos (rVal m c j)) $$ [Hd Hu Hz]
  · isplitl [Hd]; · iexact Hd
    isplitl [Hu] <;> iassumption
  iintro HF
  iapply Hk
  isplitl [HF]
  · iapply (Flight_mono EC (c : Thread nD τ) ?_) $$ HF
    unfold anyM
    iintro ⟨Hu, Hd⟩
    isplitl [Hu]; · iexact Hu
    iexists _; iexact Hd
  · iapply HU; iempintro

end Stores

end Cert.K
-- ==== Proof.PhaseA.lean ====
/-
# The first phase

Each trip computes one partial sum for the neighbour across "y" and sends it there.
-/
module

public import proofs.«01_k».proof.Proof.States

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

/-- What every step may use: the protocol's record and the levels. -/
def Ctx : sProp 𝕄 := iprop(Rec m ∗ levAts L lv)
instance Ctx_persistent : BI.Persistent (Ctx m) := by unfold Ctx; infer_instance

theorem lv_l (c : Dev nD) (i : Fin 3) (b : Fin 2) : lv ((c : Thread nD τ), .dma (lQ i b)) () = 0 := lv_none c _ (kind_lQ i b)

/-- Slot `a` of the first phase: sent, or still to compute and send. -/
def AQ (c : Dev nD) (a : Fin 8) : sProp 𝕄 := iprop(anyM c (sS a) ∗ tok c 0 a ∗ tok (py c) 1 a ∗ anyM (py c) (yS a))
/-- Before trip `k` of the first phase. -/
def IA (c : Dev nD) (k : ℕ) : sProp 𝕄 :=
  iprop(OSt m c k ∗ wPts m c ∗ fam k (fun a => crd c 0 a) (AQ c) ∗ ∃ W, owes (c : Thread nD τ) (ow (px c) 3 0 + ow (py c) 1 k) W)

theorem sVal_at (c : Dev nD) (a : Fin 8) : sVal m c a = dn3 (k0_pay4 (up4 (oVal m c ⟨a.val, by omega⟩)) (wVal m c)) := by
  unfold sVal
  rw [show ch 0 a = ⟨a.val, by omega⟩ from Fin.ext (by show 8 * 0 + a.val = a.val; omega)]

section TripA
variable (c : Dev nD) {α : Type} (h0 : aM.IsWhole) (h1 : wM.IsWhole) (h2 : uM.IsWhole) (h3 : yM.IsWhole) (h4 : xM.IsWhole) (h5 : oM.IsWhole) (h6 : sM.IsWhole) (h7 : dM.IsWhole)

/-- The wait for the trip's input chunk and the start of the next one. -/
theorem inputA (t : Fin k0_t1_loop.trips) (ht : t.val < 8) (v2 v8 v10 a15 v83 v84 : BitVec 32) (v85 v88 : BitVec 1) (O : CellTallies nD τ sig Unit)
    (hmw : (levAts L lv : sProp 𝕄) ⊢ MayWait (c : Thread nD τ) (.dma (lQ 0 (par t.val))) () O)
    {Q : α → sProp 𝕄} {k : PUnit → Prog (TpuEff nD τ sig (Elt F) Λ₀ .tc) α} :
    iprop(OSt m c t.val ∗ (∃ W, owes (c : Thread nD τ) O W) ∗ levAts L lv)
      ⊢ iprop((iprop(OHave m c ⟨t.val, by omega⟩ ∗ (∃ W, owes (c : Thread nD τ) O W)) -∗ WP c (k ⟨⟩) Q)
          -∗ WP c (k0_part3 aM h0 wM h1 uM h2 yM h3 xM h4 oM h5 sM h6 dM h7 cc0_scratch3 cc0_scratch4 cc0_scratch5 cc0_scratch6 cc0_scratch7 cc0_scratch8 cc0_scratch9
              c v2 v8 v10 t a15 v83 v84 v85 v88 >>= k) Q) := by
  unfold OSt OHave
  have e0 : OCur m c t.val = OFl m c ⟨t.val, by omega⟩ := by unfold OCur; exact dif_pos (by omega)
  have e1 : OCur m c (t.val + 1) = OFl m c ⟨t.val + 1, by omega⟩ := by unfold OCur; exact dif_pos (by omega)
  rw [e0, e1]
  simp only [k0_part3_eq_skeleton]
  unfold k0_part3_skel
  simp only [k0_part1_eq_skeleton]
  unfold k0_part1_skel
  by_cases h : t.val < 7
  · have hc1 := (cond1_iff t).2 h
    have hc2 : ¬ k0_cond2 t = 1#1 := fun h' => by have := (cond2_iff t).1 h'; omega
    obtain ⟨_, e7⟩ := off7_eq c t hc1
    simp only [dif_pos hc1, dif_neg hc2, Prog.lift, Prog.bind_op, Prog.bind_ret, Prog.pure_eq_ret]
    iintro ⟨⟨Ho, Hz, HF⟩, HO, Hl⟩ Hk
    iapply (wp_waitO m c ⟨t.val, by omega⟩ (oQ_sem (par t.val) _ _ (off2_eq t)) (N_o _ _) O hmw) $$ [HF HO Hl]
    · isplitl [HF]; · iexact HF
      isplitl [HO] <;> iassumption
    iintro ⟨Hh, Ha, Hz0, HO⟩
    iapply (wp_startO m c ⟨t.val + 1, by omega⟩ (aV_eq c _ e7) (oV_eq (par (t.val + 1)) (off6_eq t hc1)) (oQ_sem (par (t.val + 1)) _ _ (off5_eq t hc1))) $$ [Ha Ho Hz]
    · isplitl [Ha]; · iexact Ha
      isplitl [Ho] <;> iassumption
    iintro HF
    iapply Hk
    isplitr [HO]
    · isplitl [Hh]; · iexact Hh
      isplitl [Hz0] <;> iassumption
    iexact HO
  · have h' : t.val = 7 := by omega
    have hc1 : ¬ k0_cond1 t = 1#1 := fun h' => h ((cond1_iff t).1 h')
    have hc2 := (cond2_iff t).2 h'
    simp only [dif_neg hc1, dif_pos hc2, Prog.lift, Prog.bind_op, Prog.bind_ret, Prog.pure_eq_ret]
    iintro ⟨⟨Ho, Hz, HF⟩, HO, Hl⟩ Hk
    iapply (wp_waitO m c ⟨t.val, by omega⟩ (oQ_sem (par t.val) _ _ (off2_eq t)) (N_o _ _) O hmw) $$ [HF HO Hl]
    · isplitl [HF]; · iexact HF
      isplitl [HO] <;> iassumption
    iintro ⟨Hh, Ha, Hz0, HO⟩
    iapply (wp_startO m c ⟨t.val + 1, by omega⟩ (aV_eq c _ ((off8_eq c).trans (congrArg (inOff c) (Fin.ext (by show 8 = t.val + 1; omega)))))
      (oV_eq (par (t.val + 1)) (vec4 (by show 0 = (t.val + 1) % 2; omega))) (oQ_sem (par (t.val + 1)) _ _ (vec1 (by show 0 = (t.val + 1) % 2; omega)))) $$ [Ha Ho Hz]
    · isplitl [Ha]; · iexact Ha
      isplitl [Ho] <;> iassumption
    iintro HF
    iapply Hk
    isplitr [HO]
    · isplitl [Hh]; · iexact Hh
      isplitl [Hz0] <;> iassumption
    iexact HO

/-- One trip of the first phase: a partial sum computed into its slot and sent across "y". -/
theorem tripA (t : Fin k0_t1_loop.trips) (v2 v5 v6 v7 v8 v10 : BitVec 32) (v20 : Sems sig S_) :
    iprop(Ctx m ∗ IA m c t.val)
      ⊢ WP c (k0_t1_body aM h0 wM h1 uM h2 yM h3 xM h4 oM h5 sM h6 dM h7 cc0_scratch3 cc0_scratch4 cc0_scratch5 cc0_scratch6 cc0_scratch7 cc0_scratch8 cc0_scratch9
          c v2 v5 v6 v7 v8 v10 v20 t ()) (fun _ => iprop(Ctx m ∗ IA m c (t.val + 1))) := by
  have ht : t.val < 8 := lt_of_lt_of_eq t.isLt trips1
  unfold k0_t1_body IA Ctx
  simp only [k0_part2_eq_skeleton]
  unfold k0_part2_skel
  simp only [Prog.bind_ret, Prog.pure_eq_ret]
  iintro ⟨⟨#HR, #Hl⟩, HSt, Hw, HA, HO⟩
  iapply (inputA m c h0 h1 h2 h3 h4 h5 h6 h7 t ht _ _ _ _ _ _ _ _ (ow (px c) 3 0 + ow (py c) 1 t.val)
    (mayWait_xy c _ (by rw [lv_l]; decide) _ _ _ _)) $$ [HSt HO]
  · isplitl [HSt]; · iexact HSt
    isplitl [HO]; · iexact HO
    iexact Hl
  iintro ⟨Hh, HO⟩
  unfold OHave
  icases Hh with ⟨Ho, Hz, HF⟩
  simp only [Prog.lift, Prog.bind_op, Prog.bind_ret]
  iapply (wp_loadO c (par t.val) (off9_eq t)) $$ Ho
  iintro Ho
  iapply (wp_loadW m c) $$ Hw
  iintro Hw
  ihave HA' := (fam_take (⟨t.val, ht⟩ : Fin 8) (fun a => crd c 0 a) (AQ c)) $$ HA
  unfold AQ
  icases HA' with ⟨⟨Hs, Ht0, Ht1, Hy⟩, HA⟩
  ihave Hs' := (show anyM c (sS ⟨t.val, ht⟩) ⊢ iprop(∃ X, owns (c : Thread nD τ) (sS ⟨t.val, ht⟩) fullShare X) from BI.Entails.refl _) $$ Hs
  icases Hs' with ⟨%X, Hs⟩
  iapply (wp_loadS c ⟨t.val, ht⟩ (k0_off10_eq t)) $$ Hs
  iintro Hs
  iapply (wp_storeS c ⟨t.val, ht⟩ (k0_off10_eq t)) $$ [Hs]
  · unfold anyM; iexists _; iexact Hs
  iintro Hs
  iapply (wp_sendT m c 0 1 ⟨t.val, ht⟩ (py c) (dev3_eq c) (sV_eq ⟨t.val, ht⟩ (k0_off12_eq t)) (yV_eq ⟨t.val, ht⟩ (k0_off12_eq t)) (ysQ_sem ⟨t.val, ht⟩ _ _ (k0_off11_eq t)) (yrQ_sem ⟨t.val, ht⟩ _ _ (k0_off11_eq t))
    (N_y _ _) (sVal m c ⟨t.val, ht⟩) (pay_ys m c _ _) (pay_yr m c _) (ow (px c) 3 0 + ow (py c) 1 (t.val + 1)) _ (by rw [add_assoc, ← ow_step (py c) 1 ⟨t.val, ht⟩])) $$ [Hs Hy HO Ht0 Ht1]
  · isplitr; · iexact HR
    isplitl [Hs]; · rw [sVal_at]; iexact Hs
    isplitl [Hy]; · iexact Hy
    isplitl [HO]; · iexact HO
    isplitl [Ht0] <;> iassumption
  iintro ⟨Hc, HO⟩
  unfold WP; rw [wp_ret]; imodintro
  isplitr
  · isplitr; · iexact HR
    iexact Hl
  isplitl [Ho Hz HF]
  · iapply (o_release m c ⟨t.val, by omega⟩)
    unfold OHave
    isplitl [Ho]; · iexact Ho
    isplitl [Hz] <;> iassumption
  isplitl [Hw]; · iexact Hw
  isplitl [HA Hc]; · iapply HA; iexact Hc
  iexact HO

end TripA

end Cert.K
-- ==== Proof.PhaseB.lean ====
module

public import proofs.«01_k».proof.Proof.PhaseA

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

theorem par_add (n : ℕ) : par (8 + n) = par n := Fin.ext (by show (8 + n) % 2 = n % 2; omega)

/-- Slot `a` of the second phase: received and passed on, or still to come. -/
def BQ (c : Dev nD) (a : Fin 8) : sProp 𝕄 := iprop(pos c 1 a ∗ crd c 1 a ∗ tok c 2 a ∗ tok (px c) 3 a ∗ anyM (px c) (xS a))
def BD (c : Dev nD) (a : Fin 8) : sProp 𝕄 := iprop(sz c (tQ 1 a) ∗ crd c 2 a)
/-- Before trip `k` of the second phase. -/
def IB (c : Dev nD) (k : ℕ) : sProp 𝕄 :=
  iprop(OSt m c (8 + k) ∗ wPts m c ∗ fam k (BD c) (BQ c) ∗ RSt m c k ∗ ∃ W, owes (c : Thread nD τ) (ow (px c) 3 k) W)

section TripB
variable (c : Dev nD) {α : Type} (h0 : aM.IsWhole) (h1 : wM.IsWhole) (h2 : uM.IsWhole) (h3 : yM.IsWhole) (h4 : xM.IsWhole) (h5 : oM.IsWhole) (h6 : sM.IsWhole) (h7 : dM.IsWhole)

/-- The wait for the trip's input chunk and the start of the next one. -/
theorem inputB (t : Fin k0_t2_loop.trips) (ht : t.val < 8) (v2 v8 a15 v89 : BitVec 32) (O : CellTallies nD τ sig Unit)
    (hmw : (levAts L lv : sProp 𝕄) ⊢ MayWait (c : Thread nD τ) (.dma (lQ 0 (par (8 + t.val)))) () O)
    {Q : α → sProp 𝕄} {k : BitVec 32 → Prog (TpuEff nD τ sig (Elt F) Λ₀ .tc) α} :
    iprop(OSt m c (8 + t.val) ∗ (∃ W, owes (c : Thread nD τ) O W) ∗ levAts L lv)
      ⊢ iprop((iprop(OHave m c ⟨8 + t.val, by omega⟩ ∗ (∃ W, owes (c : Thread nD τ) O W)) -∗ WP c (k 2#32) Q)
          -∗ WP c (k0_part6 aM h0 wM h1 uM h2 yM h3 xM h4 oM h5 sM h6 dM h7 cc0_scratch3 cc0_scratch4 cc0_scratch5 cc0_scratch6 cc0_scratch7 cc0_scratch8 cc0_scratch9
              c v2 v8 t a15 v89 >>= k) Q) := by
  unfold OSt OHave
  have e0 : OCur m c (8 + t.val) = OFl m c ⟨8 + t.val, by omega⟩ := by unfold OCur; exact dif_pos (by omega)
  have e1 : OCur m c (8 + t.val + 1) = OFl m c ⟨8 + t.val + 1, by omega⟩ := by unfold OCur; exact dif_pos (by omega)
  have p0 : t.val % 2 = (8 + t.val) % 2 := by omega
  have p1 : (t.val + 1) % 2 = (8 + t.val + 1) % 2 := by omega
  rw [e0, e1]
  simp only [k0_part6_eq_skeleton]
  unfold k0_part6_skel
  simp only [k0_part4_eq_skeleton]
  unfold k0_part4_skel
  by_cases h : t.val < 7
  · have hc1 := (cond3_iff t).2 h
    have hc2 : ¬ k0_cond4 t = 1#1 := fun h' => by have := (cond4_iff t).1 h'; omega
    obtain ⟨_, e7⟩ := off18_eq c t hc1
    simp only [dif_pos hc1, dif_neg hc2, Prog.lift, Prog.bind_op, Prog.bind_ret, Prog.pure_eq_ret]
    iintro ⟨⟨Ho, Hz, HF⟩, HO, Hl⟩ Hk
    iapply (wp_waitO m c ⟨8 + t.val, by omega⟩ (oQ_sem (par (8 + t.val)) _ _ ((off13_eq t).trans (vec1 p0))) (N_o _ _) O hmw) $$ [HF HO Hl]
    · isplitl [HF]; · iexact HF
      isplitl [HO] <;> iassumption
    iintro ⟨Hh, Ha, Hz0, HO⟩
    iapply (wp_startO m c ⟨8 + t.val + 1, by omega⟩ (aV_eq c _ e7) (oV_eq (par (8 + t.val + 1)) ((off17_eq t hc1).trans (vec4 p1)))
      (oQ_sem (par (8 + t.val + 1)) _ _ ((off16_eq t hc1).trans (vec1 p1)))) $$ [Ha Ho Hz]
    · isplitl [Ha]; · iexact Ha
      isplitl [Ho] <;> iassumption
    iintro HF
    iapply Hk
    isplitr [HO]
    · isplitl [Hh]; · iexact Hh
      isplitl [Hz0] <;> iassumption
    iexact HO
  · have h' : t.val = 7 := by omega
    have hc1 : ¬ k0_cond3 t = 1#1 := fun h' => h ((cond3_iff t).1 h')
    have hc2 := (cond4_iff t).2 h'
    simp only [dif_neg hc1, dif_pos hc2, Prog.lift, Prog.bind_op, Prog.bind_ret, Prog.pure_eq_ret]
    iintro ⟨⟨Ho, Hz, HF⟩, HO, Hl⟩ Hk
    iapply (wp_waitO m c ⟨8 + t.val, by omega⟩ (oQ_sem (par (8 + t.val)) _ _ ((off13_eq t).trans (vec1 p0))) (N_o _ _) O hmw) $$ [HF HO Hl]
    · isplitl [HF]; · iexact HF
      isplitl [HO] <;> iassumption
    iintro ⟨Hh, Ha, Hz0, HO⟩
    iapply (wp_startO m c ⟨8 + t.val + 1, by omega⟩ (aV_eq c _ ((off19_eq c).trans (congrArg (inOff c) (Fin.ext (by show 16 = 8 + t.val + 1; omega)))))
      (oV_eq (par (8 + t.val + 1)) (vec4 (by show 0 = (8 + t.val + 1) % 2; omega))) (oQ_sem (par (8 + t.val + 1)) _ _ (vec1 (by show 0 = (8 + t.val + 1) % 2; omega)))) $$ [Ha Ho Hz]
    · isplitl [Ha]; · iexact Ha
      isplitl [Ho] <;> iassumption
    iintro HF
    iapply Hk
    isplitr [HO]
    · isplitl [Hh]; · iexact Hh
      isplitl [Hz0] <;> iassumption
    iexact HO

/-- The middle of a trip: a sum received from across "y" is passed on across "x" and staged. -/
theorem midB (t : Fin k0_t2_loop.trips) (ht : t.val < 8) (v2 v5 v6 v7 a15 v60 c2 : BitVec 32)
    {Q : α → sProp 𝕄} {k : FVec F S128x16x128 .f32 → Prog (TpuEff nD τ sig (Elt F) Λ₀ .tc) α} :
    iprop(Ctx m ∗ BQ c ⟨t.val, ht⟩ ∗ St m c t.val ∗ UDone m c t.val ∗ sz c (lQ 1 (par t.val))
        ∗ owns (c : Thread nD τ) (oS (par (8 + t.val))) fullShare (oVal m c ⟨8 + t.val, by omega⟩) ∗ (∃ W, owes (c : Thread nD τ) (ow (px c) 3 t.val) W))
      ⊢ iprop((iprop(BD c ⟨t.val, ht⟩ ∗ UDone m c (t.val + 1) ∗ sz c (lQ 2 (par t.val))
            ∗ Fl c (lQ 1 (par t.val)) N iprop(owns (c : Thread nD τ) (dS (par t.val)) fullShare (sVal m (py c) ⟨t.val, ht⟩)
                ∗ owns (c : Thread nD τ) (yS ⟨t.val, ht⟩) fullShare.right (sVal m (py c) ⟨t.val, ht⟩))
            ∗ owns (c : Thread nD τ) (oS (par (8 + t.val))) fullShare (oVal m c ⟨8 + t.val, by omega⟩) ∗ (∃ W, owes (c : Thread nD τ) (ow (px c) 3 (t.val + 1)) W))
            -∗ WP c (k (k0_pay1 (up4 (oVal m c ⟨8 + t.val, by omega⟩)))) Q)
          -∗ WP c (k0_part7 aM h0 wM h1 uM h2 yM h3 xM h4 oM h5 sM h6 dM h7 cc0_scratch3 cc0_scratch4 cc0_scratch5 cc0_scratch6 cc0_scratch7 cc0_scratch8 cc0_scratch9
              c v2 v5 v6 v7 t a15 v60 c2 >>= k) Q) := by
  unfold Ctx BQ BD
  simp only [k0_part7_eq_skeleton]
  unfold k0_part7_skel
  simp only [Prog.lift, Prog.bind_op, Prog.bind_ret, Prog.pure_eq_ret]
  iintro ⟨⟨#HR, #Hl⟩, ⟨Hp, Hc, Ht2, Ht3, Hx⟩, HSt, HU, Hz1, Ho, HO⟩ Hk
  iapply (wp_waitT m c 1 ⟨t.val, ht⟩ (yrQ_sem ⟨t.val, ht⟩ _ _ (k0_off20_eq t)) (N_y _ _) (ow (px c) 3 t.val) (mayWait_x c _ (by rw [lv_y]; decide) _ _)) $$ [Hp Hc HO]
  · isplitr; · iexact HR
    isplitr; · iexact Hl
    isplitl [Hp]; · iexact Hp
    isplitl [Hc] <;> iassumption
  iintro ⟨Hy, Hzy, HO⟩
  ihave Hy' := ((show tPay m c 1 ⟨t.val, ht⟩ ⊢ owns (c : Thread nD τ) (yS ⟨t.val, ht⟩) fullShare (sVal m (py c) ⟨t.val, ht⟩) from BI.Entails.refl _).trans
    (owns_halves (c : Thread nD τ) (yS ⟨t.val, ht⟩) fullShare (sVal m (py c) ⟨t.val, ht⟩)).1) $$ Hy
  icases Hy' with ⟨Hy1, Hy2⟩
  iapply (wp_sendT m c 2 3 ⟨t.val, ht⟩ (px c) (dev4_eq c) (yV_eq ⟨t.val, ht⟩ (k0_off21_eq t)) (xV_eq ⟨t.val, ht⟩ (k0_off21_eq t)) (rlQ_sem ⟨t.val, ht⟩ _ _ (k0_off20_eq t))
    (xrQ_sem ⟨t.val, ht⟩ _ _ (k0_off20_eq t)) (N_x _ _) (sVal m (py c) ⟨t.val, ht⟩) (pay_rl m c _ _) (pay_xr m c _) (ow (px c) 3 (t.val + 1)) _
    (ow_step (px c) 3 ⟨t.val, ht⟩)) $$ [Hy1 Hx HO Ht2 Ht3]
  · isplitr; · iexact HR
    isplitl [Hy1]; · iexact Hy1
    isplitl [Hx]; · iexact Hx
    isplitl [HO]; · iexact HO
    isplitl [Ht2] <;> iassumption
  iintro ⟨Hc2, HO⟩
  by_cases h : 2 ≤ t.val
  · have hc := (cond5_iff t).2 h
    simp only [dif_pos hc, Prog.bind_op, Prog.bind_ret]
    iapply (wp_waitSt m c t.val ⟨h, by omega⟩ (stQ_sem (par t.val) _ _ (off22_eq t hc)) (N_u _ _) (ow (px c) 3 (t.val + 1)) (mayWait_x c _ (by rw [lv_l]; decide) _ _)) $$ [HSt HU HO]
    · isplitl [HSt]; · iexact HSt
      isplitl [HU]; · iexact HU
      isplitl [HO]; · iexact HO
      iexact Hl
    iintro ⟨Hz2, Hd, HU, HO⟩
    iapply (wp_copyT c (yV_eq ⟨t.val, ht⟩ (k0_off21_eq t)) (dV_eq (par t.val) (off25_eq t)) (ldQ_sem (par t.val) _ _ (off13_eq t)) N (N_d _ _) N_pos (sVal m (py c) ⟨t.val, ht⟩)) $$ [Hy2 Hd Hz1]
    · isplitl [Hy2]; · iexact Hy2
      isplitl [Hd] <;> iassumption
    iintro HF
    iapply (wp_loadO c (par (8 + t.val)) ((off26_eq t).trans (vec4 (by show t.val % 2 = (8 + t.val) % 2; omega)))) $$ Ho
    iintro Ho
    iapply Hk
    isplitl [Hzy Hc2]; · isplitl [Hzy] <;> iassumption
    isplitl [HU]; · iexact HU
    isplitl [Hz2]; · iexact Hz2
    isplitl [HF]; · iexact HF
    isplitl [Ho] <;> iassumption
  · have hc : ¬ k0_cond5 t = 1#1 := fun h' => h ((cond5_iff t).1 h')
    simp only [dif_neg hc, Prog.bind_op, Prog.bind_ret]
    ihave H := (st_early m c t.val (by omega)) $$ [HSt HU]
    · isplitl [HSt] <;> iassumption
    icases H with ⟨Hz2, Hd, HU⟩
    iapply (wp_copyT c (yV_eq ⟨t.val, ht⟩ (k0_off21_eq t)) (dV_eq (par t.val) (off25_eq t)) (ldQ_sem (par t.val) _ _ (off13_eq t)) N (N_d _ _) N_pos (sVal m (py c) ⟨t.val, ht⟩)) $$ [Hy2 Hd Hz1]
    · isplitl [Hy2]; · iexact Hy2
      isplitl [Hd] <;> iassumption
    iintro HF
    iapply (wp_loadO c (par (8 + t.val)) ((off26_eq t).trans (vec4 (by show t.val % 2 = (8 + t.val) % 2; omega)))) $$ Ho
    iintro Ho
    iapply Hk
    isplitl [Hzy Hc2]; · isplitl [Hzy] <;> iassumption
    isplitl [HU]; · iexact HU
    isplitl [Hz2]; · iexact Hz2
    isplitl [HF]; · iexact HF
    isplitl [Ho] <;> iassumption

/-- One trip of the second phase: a partial sum added to the one received, and stored. -/
theorem tripB (t : Fin k0_t2_loop.trips) (v2 v5 v6 v7 v8 v10 : BitVec 32) (v20 : Sems sig S_) :
    iprop(Ctx m ∗ IB m c t.val)
      ⊢ WP c (k0_t2_body aM h0 wM h1 uM h2 yM h3 xM h4 oM h5 sM h6 dM h7 cc0_scratch3 cc0_scratch4 cc0_scratch5 cc0_scratch6 cc0_scratch7 cc0_scratch8 cc0_scratch9
          c v2 v5 v6 v7 v8 v10 v20 t ()) (fun _ => iprop(Ctx m ∗ IB m c (t.val + 1))) := by
  have ht : t.val < 8 := lt_of_lt_of_eq t.isLt trips2
  obtain ⟨_, e28⟩ := off28_eq c t
  have eR : rVal m c ⟨t.val, by omega⟩ = dn3 (k0_pay2 (k0_pay1 (up4 (oVal m c ⟨8 + t.val, by omega⟩))) (wVal m c) (up3 (sVal m (py c) ⟨t.val, ht⟩))) := by
    unfold rVal; exact dif_pos ht
  unfold k0_t2_body IB RSt
  simp only [k0_part5_eq_skeleton]
  unfold k0_part5_skel
  simp only [Prog.bind_ret, Prog.pure_eq_ret]
  iintro ⟨#HC, HSt, Hw, HB, ⟨HS, HS', HT, HU, Hz, Hz'⟩, HO⟩
  iapply (inputB m c h0 h1 h2 h3 h4 h5 h6 h7 t ht _ _ _ _ (ow (px c) 3 t.val) (mayWait_x c _ (by rw [lv_l]; decide) _ _)) $$ [HSt HO]
  · isplitl [HSt]; · iexact HSt
    isplitl [HO]; · iexact HO
    unfold Ctx; icases HC with ⟨-, Hl⟩; iexact Hl
  iintro ⟨Hh, HO⟩
  unfold OHave
  icases Hh with ⟨Ho, Hzo, HF⟩
  ihave HB' := (fam_take (⟨t.val, ht⟩ : Fin 8) (BD c) (BQ c)) $$ HB
  icases HB' with ⟨HQ, HB⟩
  iapply (midB m c h0 h1 h2 h3 h4 h5 h6 h7 t ht _ _ _ _ _ _ _) $$ [HQ HS HU Hz Ho HO]
  · isplitr; · iexact HC
    isplitl [HQ]; · iexact HQ
    isplitl [HS]; · iexact HS
    isplitl [HU]; · iexact HU
    isplitl [Hz]; · iexact Hz
    isplitl [Ho] <;> iassumption
  iintro ⟨HD, HU, Hz2, HL, Ho, HO⟩
  simp only [k0_part8_eq_skeleton]
  unfold k0_part8_skel
  simp only [Prog.lift, Prog.bind_op, Prog.bind_ret, Prog.pure_eq_ret]
  iapply (wp_loadW m c) $$ Hw
  iintro Hw
  iapply (wp_wait c (ldQ_sem (par t.val) _ _ (off13_eq t)) (N_d _ _) (ow (px c) 3 (t.val + 1)) (mayWait_x c _ (by rw [lv_l]; decide) _ _)) $$ [HL HO]
  · isplitl [HL]; · iexact HL
    isplitl [HO]; · iexact HO
    unfold Ctx; icases HC with ⟨-, Hl⟩; iexact Hl
  iintro ⟨⟨Hd, -⟩, Hz, HO⟩
  iapply (wp_loadD c (par t.val) (off27_eq t)) $$ Hd
  iintro Hd
  iapply (wp_loadD c (par t.val) (off27_eq t)) $$ Hd
  iintro Hd
  iapply (wp_storeD c (par t.val) (off27_eq t)) $$ [Hd]
  · unfold anyM; iexists _; iexact Hd
  iintro Hd
  iapply (wp_startSt m c ⟨t.val, by omega⟩ (dV_eq (par t.val) (off25_eq t)) (uV_eq c _ e28) (stQ_sem (par t.val) _ _ (off13_eq t))) $$ [Hd HT Hz2]
  · isplitl [Hd]; · rw [eR]; iexact Hd
    isplitl [HT] <;> iassumption
  iintro ⟨HS, HT⟩
  unfold WP; rw [wp_ret]; imodintro
  isplitr; · iexact HC
  isplitl [Ho Hzo HF]
  · iapply (o_release m c ⟨8 + t.val, by omega⟩)
    unfold OHave
    isplitl [Ho]; · iexact Ho
    isplitl [Hzo] <;> iassumption
  isplitl [Hw]; · iexact Hw
  isplitl [HB HD]; · iapply HB; iexact HD
  isplitr [HO]
  · isplitl [HS']; · iexact HS'
    isplitl [HS]; · iexact HS
    isplitl [HT]; · iexact HT
    isplitl [HU]; · iexact HU
    isplitl [Hz']; · iexact Hz'
    rw [par_two]; iexact Hz
  iexact HO

end TripB

end Cert.K
-- ==== Proof.PhaseC.lean ====
module

public import proofs.«01_k».proof.Proof.PhaseB

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

/-- Slot `a` of the third phase: received, or still to come. -/
def CQ (c : Dev nD) (a : Fin 8) : sProp 𝕄 := iprop(pos c 3 a ∗ crd c 3 a)
/-- Before trip `k` of the third phase. -/
def IC (c : Dev nD) (k : ℕ) : sProp 𝕄 :=
  iprop(OSt m c (16 + k) ∗ wPts m c ∗ fam k (fun a => sz c (tQ 3 a)) (CQ c) ∗ RSt m c (8 + k) ∗ ∃ W, owes (c : Thread nD τ) 0 W)

/-- Slot `a` while the sends are waited for: seen sent, or not yet. -/
def DQ (c : Dev nD) (a : Fin 8) : sProp 𝕄 := iprop((pos c 0 a ∗ crd c 0 a) ∗ pos c 2 a ∗ crd c 2 a)
def DD (c : Dev nD) (a : Fin 8) : sProp 𝕄 := iprop((anyM c (sS a) ∗ sz c (tQ 0 a)) ∗ sz c (tQ 2 a))
/-- Before trip `k` of the last loop. -/
def ID (c : Dev nD) (k : ℕ) : sProp 𝕄 := iprop(fam k (DD c) (DQ c) ∗ ∃ W, owes (c : Thread nD τ) 0 W)

section TripC
variable (c : Dev nD) {α : Type} (h0 : aM.IsWhole) (h1 : wM.IsWhole) (h2 : uM.IsWhole) (h3 : yM.IsWhole) (h4 : xM.IsWhole) (h5 : oM.IsWhole) (h6 : sM.IsWhole) (h7 : dM.IsWhole)

/-- The wait for the trip's input chunk and the start of the next one, if there is one. -/
theorem inputC (t : Fin k0_t3_loop.trips) (ht : t.val < 8) (v2 v7 v8 a15 v61 v88 c2 : BitVec 32)
    {Q : α → sProp 𝕄} {k : (Σ' (_ : BitVec 32), BitVec 32) → Prog (TpuEff nD τ sig (Elt F) Λ₀ .tc) α} :
    iprop(OSt m c (16 + t.val) ∗ (∃ W, owes (c : Thread nD τ) 0 W) ∗ levAts L lv)
      ⊢ iprop((iprop(OHave m c ⟨16 + t.val, by omega⟩ ∗ (∃ W, owes (c : Thread nD τ) 0 W)) -∗ WP c (k ⟨Scalar.addi 0#32 (Scalar.muli v7 2#32), 1#32⟩) Q)
          -∗ WP c (k0_part11 aM h0 wM h1 uM h2 yM h3 xM h4 oM h5 sM h6 dM h7 cc0_scratch3 cc0_scratch4 cc0_scratch5 cc0_scratch6 cc0_scratch7 cc0_scratch8 cc0_scratch9
              c v2 v7 v8 t a15 v61 v88 c2 >>= k) Q) := by
  unfold OSt OHave
  have e0 : OCur m c (16 + t.val) = OFl m c ⟨16 + t.val, by omega⟩ := by unfold OCur; exact dif_pos (by omega)
  have p0 : t.val % 2 = (16 + t.val) % 2 := by omega
  have p1 : (t.val + 1) % 2 = (16 + t.val + 1) % 2 := by omega
  rw [e0]
  simp only [k0_part11_eq_skeleton]
  unfold k0_part11_skel
  simp only [k0_part9_eq_skeleton]
  unfold k0_part9_skel
  by_cases h : t.val < 7
  · have e1 : OCur m c (16 + t.val + 1) = OFl m c ⟨16 + t.val + 1, by omega⟩ := by unfold OCur; exact dif_pos (by omega)
    rw [e1]
    have hc1 := (cond6_iff t).2 h
    obtain ⟨_, e7⟩ := off34_eq c t hc1
    simp only [dif_pos hc1, Prog.lift, Prog.bind_op, Prog.bind_ret, Prog.pure_eq_ret]
    iintro ⟨⟨Ho, Hz, HF⟩, HO, Hl⟩ Hk
    iapply (wp_waitO m c ⟨16 + t.val, by omega⟩ (oQ_sem (par (16 + t.val)) _ _ ((off29_eq t).trans (vec1 p0))) (N_o _ _) 0 (mayWait_0 c _)) $$ [HF HO Hl]
    · isplitl [HF]; · iexact HF
      isplitl [HO] <;> iassumption
    iintro ⟨Hh, Ha, Hz0, HO⟩
    iapply (wp_startO m c ⟨16 + t.val + 1, by omega⟩ (aV_eq c _ e7) (oV_eq (par (16 + t.val + 1)) ((off33_eq t hc1).trans (vec4 p1)))
      (oQ_sem (par (16 + t.val + 1)) _ _ ((off32_eq t hc1).trans (vec1 p1)))) $$ [Ha Ho Hz]
    · isplitl [Ha]; · iexact Ha
      isplitl [Ho] <;> iassumption
    iintro HF
    iapply Hk
    isplitr [HO]
    · isplitl [Hh]; · iexact Hh
      isplitl [Hz0] <;> iassumption
    iexact HO
  · have h' : t.val = 7 := by omega
    have e1 : OCur m c (16 + t.val + 1) = iprop(anyM c (oS (par (16 + t.val + 1))) ∗ sz c (lQ 0 (par (16 + t.val + 1))) ∗ aPts m c) := by
      unfold OCur; exact dif_neg (by omega)
    rw [e1]
    have hc1 : ¬ k0_cond6 t = 1#1 := fun h' => h ((cond6_iff t).1 h')
    simp only [dif_neg hc1, Prog.lift, Prog.bind_op, Prog.bind_ret, Prog.pure_eq_ret]
    iintro ⟨⟨Ho, Hz, HF⟩, HO, Hl⟩ Hk
    iapply (wp_waitO m c ⟨16 + t.val, by omega⟩ (oQ_sem (par (16 + t.val)) _ _ ((off29_eq t).trans (vec1 p0))) (N_o _ _) 0 (mayWait_0 c _)) $$ [HF HO Hl]
    · isplitl [HF]; · iexact HF
      isplitl [HO] <;> iassumption
    iintro ⟨Hh, Ha, Hz0, HO⟩
    iapply Hk
    isplitr [HO]
    · isplitl [Hh]; · iexact Hh
      isplitl [Hz0]; · iexact Hz0
      isplitl [Ho]; · iexact Ho
      isplitl [Hz] <;> iassumption
    iexact HO

/-- One trip of the third phase: a partial sum added to the one relayed, and stored. -/
theorem tripC (t : Fin k0_t3_loop.trips) (v2 v5 v6 v7 v8 v10 : BitVec 32) (v20 : Sems sig S_) :
    iprop(Ctx m ∗ IC m c t.val)
      ⊢ WP c (k0_t3_body aM h0 wM h1 uM h2 yM h3 xM h4 oM h5 sM h6 dM h7 cc0_scratch3 cc0_scratch4 cc0_scratch5 cc0_scratch6 cc0_scratch7 cc0_scratch8 cc0_scratch9
          c v2 v5 v6 v7 v8 v10 v20 t ()) (fun _ => iprop(Ctx m ∗ IC m c (t.val + 1))) := by
  have ht : t.val < 8 := lt_of_lt_of_eq t.isLt trips3
  obtain ⟨_, e41⟩ := off41_eq c t
  have p0 : t.val % 2 = (8 + t.val) % 2 := by omega
  have e29 : k0_off29 t = ![(par (8 + t.val)).val] := (off29_eq t).trans (vec1 p0)
  have e38 : k0_off38 t = ![(par (8 + t.val)).val, 0, 0] := (off38_eq t).trans (vec3 p0)
  have e40 : k0_off40 t = ![(par (8 + t.val)).val, 0, 0] := (off40_eq t).trans (vec3 p0)
  have eR : rVal m c ⟨8 + t.val, by omega⟩ = dn3 (k0_pay3 (up4 (oVal m c ⟨16 + t.val, by omega⟩)) (wVal m c) (up3 (sVal m (py (px c)) ⟨t.val, ht⟩))) := by
    have ea : (⟨8 + t.val - 8, by omega⟩ : Fin 8) = ⟨t.val, ht⟩ := Fin.ext (by show 8 + t.val - 8 = t.val; omega)
    have e : rVal m c ⟨8 + t.val, by omega⟩ = rVal2 m c ⟨8 + t.val - 8, by omega⟩ := by unfold rVal; exact dif_neg (show ¬ 8 + t.val < 8 by omega)
    rw [e, ea]; rfl
  unfold k0_t3_body IC RSt
  simp only [k0_part10_eq_skeleton]
  unfold k0_part10_skel
  simp only [Prog.bind_ret, Prog.pure_eq_ret]
  iintro ⟨#HC, HSt, Hw, HB, ⟨HS, HS', HT, HU, Hz, Hz'⟩, HO⟩
  ihave #HC' := (show Ctx m ⊢ iprop(Rec m ∗ levAts L lv) from BI.Entails.refl _) $$ HC
  icases HC' with ⟨#HR, #Hl⟩
  iapply (inputC m c h0 h1 h2 h3 h4 h5 h6 h7 t ht _ _ _ _ _ _ _) $$ [HSt HO]
  · isplitl [HSt]; · iexact HSt
    isplitl [HO]; · iexact HO
    iexact Hl
  iintro ⟨Hh, HO⟩
  unfold OHave
  icases Hh with ⟨Ho, Hzo, HF⟩
  ihave HB' := (fam_take (⟨t.val, ht⟩ : Fin 8) (fun a => sz c (tQ 3 a)) (CQ c)) $$ HB
  unfold CQ
  icases HB' with ⟨⟨Hp, Hc⟩, HB⟩
  simp only [k0_part12_eq_skeleton, k0_part13_eq_skeleton]
  unfold k0_part12_skel k0_part13_skel
  simp only [Prog.lift, Prog.bind_op, Prog.bind_ret, Prog.pure_eq_ret]
  iapply (wp_waitT m c 3 ⟨t.val, ht⟩ (xrQ_sem ⟨t.val, ht⟩ _ _ (k0_off35_eq t)) (N_x _ _) 0 (mayWait_0 c _)) $$ [Hp Hc HO]
  · isplitr; · iexact HR
    isplitr; · iexact Hl
    isplitl [Hp]; · iexact Hp
    isplitl [Hc] <;> iassumption
  iintro ⟨Hx', Hzx, HO⟩
  ihave Hx := (show tPay m c 3 ⟨t.val, ht⟩ ⊢ owns (c : Thread nD τ) (xS ⟨t.val, ht⟩) fullShare (sVal m (py (px c)) ⟨t.val, ht⟩) from BI.Entails.refl _) $$ Hx'
  iapply (wp_waitSt m c (8 + t.val) ⟨by omega, by omega⟩ (stQ_sem (par (8 + t.val)) _ _ e29) (N_u _ _) 0 (mayWait_0 c _)) $$ [HS HU HO]
  · isplitl [HS]; · iexact HS
    isplitl [HU]; · iexact HU
    isplitl [HO]; · iexact HO
    iexact Hl
  iintro ⟨Hz2, Hd, HU, HO⟩
  iapply (wp_copyT c (xV_eq ⟨t.val, ht⟩ (k0_off36_eq t)) (dV_eq (par (8 + t.val)) e38) (ldQ_sem (par (8 + t.val)) _ _ e29) N (N_d _ _) N_pos
    (sVal m (py (px c)) ⟨t.val, ht⟩)) $$ [Hx Hd Hz]
  · isplitl [Hx]; · iexact Hx
    isplitl [Hd] <;> iassumption
  iintro HL
  iapply (wp_loadO c (par (16 + t.val)) ((off39_eq t).trans (vec4 (by show t.val % 2 = (16 + t.val) % 2; omega)))) $$ Ho
  iintro Ho
  iapply (wp_loadW m c) $$ Hw
  iintro Hw
  iapply (wp_wait c (ldQ_sem (par (8 + t.val)) _ _ e29) (N_d _ _) 0 (mayWait_0 c _)) $$ [HL HO]
  · isplitl [HL]; · iexact HL
    isplitl [HO]; · iexact HO
    iexact Hl
  iintro ⟨⟨Hd, -⟩, Hz, HO⟩
  iapply (wp_loadD c (par (8 + t.val)) e40) $$ Hd
  iintro Hd
  iapply (wp_loadD c (par (8 + t.val)) e40) $$ Hd
  iintro Hd
  iapply (wp_storeD c (par (8 + t.val)) e40) $$ [Hd]
  · unfold anyM; iexists _; iexact Hd
  iintro Hd
  iapply (wp_startSt m c ⟨8 + t.val, by omega⟩ (dV_eq (par (8 + t.val)) e38) (uV_eq c _ e41) (stQ_sem (par (8 + t.val)) _ _ e29)) $$ [Hd HT Hz2]
  · isplitl [Hd]; · rw [eR]; iexact Hd
    isplitl [HT] <;> iassumption
  iintro ⟨HS, HT⟩
  unfold WP; rw [wp_ret]; imodintro
  isplitr; · iexact HC
  isplitl [Ho Hzo HF]
  · iapply (o_release m c ⟨16 + t.val, by omega⟩)
    unfold OHave
    isplitl [Ho]; · iexact Ho
    isplitl [Hzo] <;> iassumption
  isplitl [Hw]; · iexact Hw
  isplitl [HB Hzx]; · iapply HB; iexact Hzx
  isplitr [HO]
  · isplitl [HS']; · iexact HS'
    isplitl [HS]; · iexact HS
    isplitl [HT]; · iexact HT
    isplitl [HU]; · iexact HU
    isplitl [Hz']; · iexact Hz'
    rw [show 8 + (t.val + 1) + 1 = 8 + t.val + 1 + 1 from rfl, par_two]; iexact Hz
  iexact HO

/-- One trip of the last loop: both sends of a slot are over. -/
theorem tripD (t : Fin k0_t4_loop.trips) (v2 v5 v6 v7 v8 v10 : BitVec 32) (v20 : Sems sig S_) :
    iprop(Ctx m ∗ ID c t.val)
      ⊢ WP c (k0_t4_body aM h0 wM h1 uM h2 yM h3 xM h4 oM h5 sM h6 dM h7 cc0_scratch3 cc0_scratch4 cc0_scratch5 cc0_scratch6 cc0_scratch7 cc0_scratch8 cc0_scratch9
          c v2 v5 v6 v7 v8 v10 v20 t ()) (fun _ => iprop(Ctx m ∗ ID c (t.val + 1))) := by
  have ht : t.val < 8 := lt_of_lt_of_eq t.isLt trips4
  unfold k0_t4_body ID Ctx
  simp only [Prog.lift, Prog.bind_op, Prog.bind_ret, Prog.pure_eq_ret]
  iintro ⟨⟨#HR, #Hl⟩, HD, HO⟩
  ihave HD' := (fam_take (⟨t.val, ht⟩ : Fin 8) (DD c) (DQ c)) $$ HD
  unfold DQ DD
  icases HD' with ⟨⟨⟨Hp, Hc⟩, Hp', Hc'⟩, HD⟩
  iapply (wp_waitT m c 0 ⟨t.val, ht⟩ (ysQ_sem ⟨t.val, ht⟩ _ _ (k0_off42_eq t)) (N_s _ _) 0 (mayWait_0 c _)) $$ [Hp Hc HO]
  · isplitr; · iexact HR
    isplitr; · iexact Hl
    isplitl [Hp]; · iexact Hp
    isplitl [Hc] <;> iassumption
  iintro ⟨Hs', Hz, HO⟩
  ihave Hs := (show tPay m c 0 ⟨t.val, ht⟩ ⊢ anyM c (sS ⟨t.val, ht⟩) from BI.Entails.refl _) $$ Hs'
  iapply (wp_waitT m c 2 ⟨t.val, ht⟩ (rlQ_sem ⟨t.val, ht⟩ _ _ (k0_off42_eq t)) (N_y _ _) 0 (mayWait_0 c _)) $$ [Hp' Hc' HO]
  · isplitr; · iexact HR
    isplitr; · iexact Hl
    isplitl [Hp']; · iexact Hp'
    isplitl [Hc'] <;> iassumption
  iintro ⟨-, Hz', HO⟩
  unfold WP; rw [wp_ret]; imodintro
  isplitr
  · isplitr; · iexact HR
    iexact Hl
  isplitl [HD Hs Hz Hz']
  · iapply HD
    isplitl [Hs Hz]
    · isplitl [Hs]; · iexact Hs
      iexact Hz
    iexact Hz'
  iexact HO

end TripC

end Cert.K
-- ==== Proof.Body.lean ====
module

public import proofs.«01_k».proof.Proof.PhaseC

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ)

section Loops
variable (c : Dev nD) {α : Type} (h0 : aM.IsWhole) (h1 : wM.IsWhole) (h2 : uM.IsWhole) (h3 : yM.IsWhole) (h4 : xM.IsWhole) (h5 : oM.IsWhole) (h6 : sM.IsWhole) (h7 : dM.IsWhole)

/-- The first phase. -/
theorem loopA (v2 v5 v6 v7 v8 v10 : BitVec 32) (v20 : Sems sig S_) {Q : α → sProp 𝕄} {kk : Unit → Prog (TpuEff nD τ sig (Elt F) Λ₀ .tc) α} :
    iprop(Ctx m ∗ IA m c 0)
      ⊢ iprop((iprop(Ctx m ∗ IA m c 8) -∗ WP c (kk ()) Q)
          -∗ WP c (Scf.Loop.for k0_t1_loop k0_t1_ok () (k0_t1_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20) >>= kk) Q) := by
  have h := Scf.wp_for_bind frame (wpE (defs₀ (F := F)) 𝒱₀ (c : Thread nD τ) none) Set.univ k0_t1_loop.lb k0_t1_loop.ub k0_t1_loop.st k0_t1_ok ()
    (k0_t1_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20)
    (fun k _ => iprop(Ctx m ∗ IA m c k)) (fun t _ => tripA m c h0 h1 h2 h3 h4 h5 h6 h7 t v2 v5 v6 v7 v8 v10 v20) (kk := kk) (Q := Q)
  iintro H Hk
  iapply h $$ H
  iintro %acc H
  iapply Hk
  rw [show Scf.trips k0_t1_loop.lb k0_t1_loop.ub k0_t1_loop.st = 8 from trips1]
  iexact H

/-- The second phase. -/
theorem loopB (v2 v5 v6 v7 v8 v10 : BitVec 32) (v20 : Sems sig S_) {Q : α → sProp 𝕄} {kk : Unit → Prog (TpuEff nD τ sig (Elt F) Λ₀ .tc) α} :
    iprop(Ctx m ∗ IB m c 0)
      ⊢ iprop((iprop(Ctx m ∗ IB m c 8) -∗ WP c (kk ()) Q)
          -∗ WP c (Scf.Loop.for k0_t2_loop k0_t2_ok () (k0_t2_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20) >>= kk) Q) := by
  have h := Scf.wp_for_bind frame (wpE (defs₀ (F := F)) 𝒱₀ (c : Thread nD τ) none) Set.univ k0_t2_loop.lb k0_t2_loop.ub k0_t2_loop.st k0_t2_ok ()
    (k0_t2_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20)
    (fun k _ => iprop(Ctx m ∗ IB m c k)) (fun t _ => tripB m c h0 h1 h2 h3 h4 h5 h6 h7 t v2 v5 v6 v7 v8 v10 v20) (kk := kk) (Q := Q)
  iintro H Hk
  iapply h $$ H
  iintro %acc H
  iapply Hk
  rw [show Scf.trips k0_t2_loop.lb k0_t2_loop.ub k0_t2_loop.st = 8 from trips2]
  iexact H

/-- The third phase. -/
theorem loopC (v2 v5 v6 v7 v8 v10 : BitVec 32) (v20 : Sems sig S_) {Q : α → sProp 𝕄} {kk : Unit → Prog (TpuEff nD τ sig (Elt F) Λ₀ .tc) α} :
    iprop(Ctx m ∗ IC m c 0)
      ⊢ iprop((iprop(Ctx m ∗ IC m c 8) -∗ WP c (kk ()) Q)
          -∗ WP c (Scf.Loop.for k0_t3_loop k0_t3_ok () (k0_t3_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20) >>= kk) Q) := by
  have h := Scf.wp_for_bind frame (wpE (defs₀ (F := F)) 𝒱₀ (c : Thread nD τ) none) Set.univ k0_t3_loop.lb k0_t3_loop.ub k0_t3_loop.st k0_t3_ok ()
    (k0_t3_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20)
    (fun k _ => iprop(Ctx m ∗ IC m c k)) (fun t _ => tripC m c h0 h1 h2 h3 h4 h5 h6 h7 t v2 v5 v6 v7 v8 v10 v20) (kk := kk) (Q := Q)
  iintro H Hk
  iapply h $$ H
  iintro %acc H
  iapply Hk
  rw [show Scf.trips k0_t3_loop.lb k0_t3_loop.ub k0_t3_loop.st = 8 from trips3]
  iexact H

/-- The waits for the sends. -/
theorem loopD (v2 v5 v6 v7 v8 v10 : BitVec 32) (v20 : Sems sig S_) {Q : α → sProp 𝕄} {kk : Unit → Prog (TpuEff nD τ sig (Elt F) Λ₀ .tc) α} :
    iprop(Ctx m ∗ ID c 0)
      ⊢ iprop((iprop(Ctx m ∗ ID c 8) -∗ WP c (kk ()) Q)
          -∗ WP c (Scf.Loop.for k0_t4_loop k0_t4_ok () (k0_t4_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20) >>= kk) Q) := by
  have h := Scf.wp_for_bind frame (wpE (defs₀ (F := F)) 𝒱₀ (c : Thread nD τ) none) Set.univ k0_t4_loop.lb k0_t4_loop.ub k0_t4_loop.st k0_t4_ok ()
    (k0_t4_body aM h0 wM h1 uM h2 yM h3 xM h4 oM h5 sM h6 dM h7 cc0_scratch3 cc0_scratch4 cc0_scratch5 cc0_scratch6 cc0_scratch7 cc0_scratch8 cc0_scratch9 c v2 v5 v6 v7 v8 v10 v20)
    (fun k _ => iprop(Ctx m ∗ ID c k)) (fun t _ => tripD m c h0 h1 h2 h3 h4 h5 h6 h7 t v2 v5 v6 v7 v8 v10 v20) (kk := kk) (Q := Q)
  iintro H Hk
  iapply h $$ H
  iintro %acc H
  iapply Hk
  rw [show Scf.trips k0_t4_loop.lb k0_t4_loop.ub k0_t4_loop.st = 8 from trips4]
  iexact H

end Loops

/-! ## The body -/

/-- What the protocol's record of the launch gives a device: its places, the duties it pays and the credits its waits need. -/
def Ghost (c : Dev nD) : sProp 𝕄 :=
  iprop(atPos ER (barCell c) 0 ∅ 0 ∗ dutyTok ER (barCell (py c)) 0 false ∗ dutyTok ER (barCell (px c)) 0 true
    ∗ bigSep Finset.univ fun a : Fin 8 => iprop((pos c 0 a ∗ pos c 1 a ∗ pos c 2 a ∗ pos c 3 a) ∗ tok c 0 a ∗ tok (py c) 1 a ∗ tok c 2 a ∗ tok (px c) 3 a))
def Credits (c : Dev nD) : sProp 𝕄 :=
  iprop(cred (tallyAt (barCell c) () 2) ∗ bigSep Finset.univ fun a : Fin 8 => iprop(crd c 1 a ∗ crd c 3 a))

/-- The device's own two-entry semaphores, all at rest. -/
def LSems (c : Dev nD) : sProp 𝕄 :=
  iprop((sz c (lQ 0 0) ∗ sz c (lQ 0 1)) ∗ (sz c (lQ 1 0) ∗ sz c (lQ 1 1)) ∗ sz c (lQ 2 0) ∗ sz c (lQ 2 1))
/-- The scratch buffers, slot by slot. -/
def Scratch (c : Dev nD) : sProp 𝕄 :=
  iprop((anyM c (oS 0) ∗ anyM c (oS 1)) ∗ (bigSep Finset.univ fun a : Fin 8 => anyM c (sS a)) ∗ anyM c (dS 0) ∗ anyM c (dS 1))

/-- What the body starts from, -/
def BodyIn (c : Dev nD) : sProp 𝕄 :=
  iprop(Ctx m ∗ Ghost c ∗ Credits c ∗ aPts m c ∗ wPts m c ∗ Scratch c
    ∗ ((bigSep Finset.univ fun n : Fin 16 => anyM c (uS c n)) ∗ (bigSep Finset.univ fun a : Fin 8 => anyM c (yS a)) ∗ bigSep Finset.univ fun a : Fin 8 => anyM c (xS a))
    ∗ LSems c ∗ ∃ W, owes (c : Thread nD τ) (O₀ c) W)
/-- and what it leaves. -/
def BodyOut (c : Dev nD) : sProp 𝕄 :=
  iprop(aPts m c ∗ wPts m c ∗ Scratch c ∗ (bigSep Finset.univ fun n : Fin 16 => owns (c : Thread nD τ) (uS c n) fullShare (rVal m c n))
    ∗ LSems c ∗ (bigSep Finset.univ fun a : Fin 8 => iprop((sz c (tQ 0 a) ∗ sz c (tQ 1 a)) ∗ sz c (tQ 2 a) ∗ sz c (tQ 3 a)))
    ∗ semVal (barCell c) 0 ∗ ∃ W, owes (c : Thread nD τ) 0 W)

section Body
variable (c : Dev nD) {α : Type} (h0 : aM.IsWhole) (h1 : wM.IsWhole) (h2 : uM.IsWhole) (h3 : yM.IsWhole) (h4 : xM.IsWhole) (h5 : oM.IsWhole) (h6 : sM.IsWhole) (h7 : dM.IsWhole)

/-- The opening: the first input chunk on its way, and the two signals. -/
theorem opening {Q : α → sProp 𝕄} {k : (Σ' (_ : Dev nD) (_ : BitVec 32) (_ : BitVec 32) (_ : BitVec 32) (_ : BitVec 32) (_ : BitVec 32) (_ : BitVec 32), Sems sig S_) → Prog (TpuEff nD τ sig (Elt F) Λ₀ .tc) α} :
    iprop(Rec m ∗ (dutyTok ER (barCell (py c)) 0 false ∗ dutyTok ER (barCell (px c)) 0 true) ∗ (aPts m c ∗ anyM c (oS 0) ∗ sz c (lQ 0 0))
        ∗ ((bigSep Finset.univ fun a : Fin 8 => anyM c (yS a)) ∗ bigSep Finset.univ fun a : Fin 8 => anyM c (xS a)) ∗ ∃ W, owes (c : Thread nD τ) (O₀ c) W)
      ⊢ iprop((∀ v2, ∀ v5, ∀ v6, ∀ v7, ∀ v8, ∀ v10, iprop(OCur m c 0 ∗ (∃ W, owes (c : Thread nD τ) (O₁ c) W)) -∗ WP c (k ⟨c, v2, v5, v6, v7, v8, v10, SemArray.scalar (sig.barrier 0 rfl)⟩) Q)
          -∗ WP c (k0_part14 aM h0 wM h1 uM h2 yM h3 xM h4 oM h5 sM h6 dM h7 cc0_scratch3 cc0_scratch4 cc0_scratch5 cc0_scratch6 cc0_scratch7 cc0_scratch8 cc0_scratch9 >>= k) Q) := by
  have e0 : OCur m c 0 = OFl m c 0 := by unfold OCur; exact dif_pos (by omega)
  rw [e0]
  simp only [k0_part14_eq_skeleton]
  unfold k0_part14_skel
  simp only [semSignalWord, Prog.lift, Prog.bind_op, Prog.bind_ret, Prog.pure_eq_ret]
  unfold WP
  rw [wp_deviceId]
  simp only [dev1_eq c, dev2_eq c]
  iintro ⟨#HR, ⟨HtY, HtX⟩, HA, ⟨HY, HX⟩, ⟨%W, HO⟩⟩ Hk
  ihave HA' := (show iprop(aPts m c ∗ anyM c (oS 0) ∗ sz c (lQ 0 0)) ⊢ iprop(aPts m c ∗ anyM c (oS (par (0 : Fin 24).val)) ∗ sz c (lQ 0 (par (0 : Fin 24).val))) from BI.Entails.refl _) $$ HA
  iapply (wp_startO m c 0 (aV_eq c 0 (off1_eq c)) (oV_eq (par (0 : Fin 24).val) rfl) (oQ_sem (par (0 : Fin 24).val) _ _ rfl)) $$ HA'
  iintro HF
  ihave H1 := (rec_get m (py c, none)) $$ HR
  icases H1 with ⟨%κ₁, #HI1, #HR1⟩
  ihave H2 := (rec_get m (px c, none)) $$ HR
  icases H2 with ⟨%κ₂, #HI2, #HR2⟩
  iapply (Rounds.wp_signal 𝒱₀ ER (Rd m) (c : Thread nD τ) none (dst := (py c : Thread nD τ)) (κ := κ₁ (py c, none))
      (d := false) (by rw [duties_bar]; exact Finset.mem_univ _) ((amount_bar m (py c) false).trans (by decide)) ()
      (O₁ c + tallyAt (barCell (px c)) () 1) rfl) $$ [HO HtY HY]
  · isplitr; · iexact HI1
    isplitl [HO]; · iexact HO
    isplitl [HtY]; · iexact HtY
    isplitl [HY]
    · rw [payload_bar]; unfold barPay; rw [if_neg (by decide), py_py]; iexact HY
    iexact HR1
  iintro HO
  iapply (Rounds.wp_signal 𝒱₀ ER (Rd m) (c : Thread nD τ) none (dst := (px c : Thread nD τ)) (κ := κ₂ (px c, none))
      (d := true) (by rw [duties_bar]; exact Finset.mem_univ _) ((amount_bar m (px c) true).trans (by decide)) ()
      (O₁ c) rfl) $$ [HO HtX HX]
  · isplitr; · iexact HI2
    isplitl [HO]; · iexact HO
    isplitl [HtX]; · iexact HtX
    isplitl [HX]
    · rw [payload_bar]; unfold barPay; rw [if_pos rfl, px_px]; iexact HX
    iexact HR2
  iintro HO
  ispecialize Hk $$ %_ %_ %_ %_ %_ %_
  iapply Hk
  isplitl [HF]; · iexact HF
  iexists _; iexact HO

/-- The barrier: both neighbours' landing slots are this device's to send to. -/
theorem barrier {Q : α → sProp 𝕄} {k : PUnit → Prog (TpuEff nD τ sig (Elt F) Λ₀ .tc) α} :
    iprop(Ctx m ∗ atPos ER (barCell c) 0 ∅ 0 ∗ cred (tallyAt (barCell c) () 2) ∗ ∃ W, owes (c : Thread nD τ) (O₁ c) W)
      ⊢ iprop((iprop(semVal (barCell c) 0 ∗ (bigSep Finset.univ fun a : Fin 8 => anyM (py c) (yS a)) ∗ (bigSep Finset.univ fun a : Fin 8 => anyM (px c) (xS a))
            ∗ (∃ W, owes (c : Thread nD τ) (O₁ c) W)) -∗ WP c (k ⟨⟩) Q)
          -∗ WP c (.op (.semWait barS 2) k) Q) := by
  unfold Ctx
  iintro ⟨⟨#HR, #Hl⟩, Hat, Hc, ⟨%W, HO⟩⟩ Hk
  ihave H1 := (rec_get m (c, none)) $$ HR
  icases H1 with ⟨%κ, #HI, -⟩
  iapply (Rounds.wp_wait_rest_token 𝒱₀ ER (Rd m) (c : Thread nD τ) none (κ := κ (c, none))
      (wpE_semWait_eq 𝒱₀ (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · unfold O₁; iapply (mayWait_xy c (.reg barS) (by rw [lv_bar]; decide) (px c) (py c) 0 0); iexact Hl
    iexact Hat
  iintro ⟨HO, Hat, -, Hpay⟩
  ihave Hp := (Entails.of_eq (rest_bar m c)) $$ Hpay
  imod (Rounds.cell_close ER (Rd m) (Set.mem_univ (κ (c, none))) (fun h => h) (R := 0 + 1) (duties_later m (barCell c))) $$ [Hat] with Hz
  · isplitr; · iexact HI
    iexact Hat
  ihave Hp' := (show iprop(barPay c false ∗ barPay c true) ⊢ iprop((bigSep Finset.univ fun a : Fin 8 => anyM (py c) (yS a)) ∗ bigSep Finset.univ fun a : Fin 8 => anyM (px c) (xS a))
    from by unfold barPay; rw [if_neg (by decide), if_pos rfl]) $$ Hp
  icases Hp' with ⟨HY, HX⟩
  iapply Hk
  isplitl [Hz]; · iexact Hz
  isplitl [HY]; · iexact HY
  isplitl [HX]; · iexact HX
  iexists _; iexact HO

theorem deal_one (a : Fin 8) : iprop(anyM c (sS a) ∗ ((pos c 0 a ∗ pos c 1 a ∗ pos c 2 a ∗ pos c 3 a) ∗ tok c 0 a ∗ tok (py c) 1 a ∗ tok c 2 a ∗ tok (px c) 3 a)
      ∗ (crd c 1 a ∗ crd c 3 a) ∗ anyM (py c) (yS a) ∗ anyM (px c) (xS a))
    ⊢ (iprop(AQ c a ∗ BQ c a ∗ CQ c a ∗ pos c 0 a ∗ pos c 2 a) : sProp 𝕄) := by
  unfold AQ BQ CQ
  iintro ⟨Hs, ⟨⟨Hp0, Hp1, Hp2, Hp3⟩, Ht0, Ht1, Ht2, Ht3⟩, ⟨Hc1, Hc3⟩, Hy, Hx⟩
  isplitl [Hs Ht0 Ht1 Hy]
  · isplitl [Hs]; · iexact Hs
    isplitl [Ht0]; · iexact Ht0
    isplitl [Ht1] <;> iassumption
  isplitl [Hp1 Hc1 Ht2 Ht3 Hx]
  · isplitl [Hp1]; · iexact Hp1
    isplitl [Hc1]; · iexact Hc1
    isplitl [Ht2]; · iexact Ht2
    isplitl [Ht3] <;> iassumption
  isplitl [Hp3 Hc3]
  · isplitl [Hp3] <;> iassumption
  isplitl [Hp0] <;> iassumption

/-- The slots' shares dealt to the phases that use them. -/
theorem deal : iprop((bigSep Finset.univ fun a : Fin 8 => anyM c (sS a))
      ∗ (bigSep Finset.univ fun a : Fin 8 => iprop((pos c 0 a ∗ pos c 1 a ∗ pos c 2 a ∗ pos c 3 a) ∗ tok c 0 a ∗ tok (py c) 1 a ∗ tok c 2 a ∗ tok (px c) 3 a))
      ∗ (bigSep Finset.univ fun a : Fin 8 => iprop(crd c 1 a ∗ crd c 3 a))
      ∗ (bigSep Finset.univ fun a : Fin 8 => anyM (py c) (yS a)) ∗ (bigSep Finset.univ fun a : Fin 8 => anyM (px c) (xS a)))
    ⊢ (iprop((bigSep Finset.univ (AQ c)) ∗ (bigSep Finset.univ (BQ c)) ∗ (bigSep Finset.univ (CQ c)) ∗ bigSep Finset.univ fun a : Fin 8 => iprop(pos c 0 a ∗ pos c 2 a)) : sProp 𝕄) := by
  simp only [← bigSep_sep']
  exact bigSep_mono fun a _ => deal_one c a

theorem deal_drain_one (a : Fin 8) : iprop(crd c 0 a ∗ BD c a ∗ pos c 0 a ∗ pos c 2 a)
    ⊢ (iprop(DQ c a ∗ sz c (tQ 1 a)) : sProp 𝕄) := by
  unfold BD DQ
  iintro ⟨Hc0, ⟨Hz, Hc2⟩, Hp0, Hp2⟩
  isplitr [Hz]
  · isplitl [Hp0 Hc0]
    · isplitl [Hp0] <;> iassumption
    isplitl [Hp2] <;> iassumption
  iexact Hz

/-- What the last loop needs of each slot. -/
theorem deal_drain : iprop((bigSep Finset.univ fun a : Fin 8 => crd c 0 a) ∗ (bigSep Finset.univ (BD c)) ∗ bigSep Finset.univ fun a : Fin 8 => iprop(pos c 0 a ∗ pos c 2 a))
    ⊢ (iprop((bigSep Finset.univ (DQ c)) ∗ bigSep Finset.univ fun a : Fin 8 => sz c (tQ 1 a)) : sProp 𝕄) := by
  simp only [← bigSep_sep']
  exact bigSep_mono fun a _ => deal_drain_one c a

theorem deal_end_one (a : Fin 8) : iprop(DD c a ∗ sz c (tQ 1 a) ∗ sz c (tQ 3 a))
    ⊢ (iprop(anyM c (sS a) ∗ (sz c (tQ 0 a) ∗ sz c (tQ 1 a)) ∗ sz c (tQ 2 a) ∗ sz c (tQ 3 a)) : sProp 𝕄) := by
  unfold DD
  iintro ⟨⟨⟨Hs, Hz0⟩, Hz2⟩, Hz1, Hz3⟩
  isplitl [Hs]; · iexact Hs
  isplitl [Hz0 Hz1]
  · isplitl [Hz0] <;> iassumption
  isplitl [Hz2] <;> iassumption

/-- What is left of each slot at the end. -/
theorem deal_end : iprop((bigSep Finset.univ (DD c)) ∗ (bigSep Finset.univ fun a : Fin 8 => sz c (tQ 1 a)) ∗ bigSep Finset.univ fun a : Fin 8 => sz c (tQ 3 a))
    ⊢ (iprop((bigSep Finset.univ fun a : Fin 8 => anyM c (sS a))
        ∗ bigSep Finset.univ fun a : Fin 8 => iprop((sz c (tQ 0 a) ∗ sz c (tQ 1 a)) ∗ sz c (tQ 2 a) ∗ sz c (tQ 3 a))) : sProp 𝕄) := by
  simp only [← bigSep_sep']
  exact bigSep_mono fun a _ => deal_end_one c a

omit [FloatOps F] in
theorem nothing : (BI.emp : sProp 𝕄) ⊢ bigSep Finset.univ fun _ : Fin 16 => (iprop(emp) : sProp 𝕄) :=
  by rw [show (bigSep Finset.univ fun _ : Fin 16 => (iprop(emp) : sProp 𝕄)) = BI.emp from bigSep_emp_const _]

theorem UDone_end : UDone m c (17 + 1) ⊢ bigSep Finset.univ fun n : Fin 16 => owns (c : Thread nD τ) (uS c n) fullShare (rVal m c n) := by
  unfold UDone; rw [fam_all (17 + 1 - 2) (by omega)]

theorem OSt_end : OSt m c (16 + 8) ⊢ iprop(anyM c (oS 1) ∗ sz c (lQ 0 1) ∗ anyM c (oS 0) ∗ sz c (lQ 0 0) ∗ aPts m c) := by
  unfold OSt OCur; rw [dif_neg (by omega)]; exact BI.Entails.refl _

set_option maxHeartbeats 1000000 in
/-- The whole body. -/
theorem sound_body :
    BodyIn m c ⊢ WP c (cc0_body aM h0 wM h1 uM h2 yM h3 xM h4 oM h5 sM h6 dM h7 cc0_scratch3 cc0_scratch4 cc0_scratch5 cc0_scratch6 cc0_scratch7 cc0_scratch8 cc0_scratch9) (fun _ => BodyOut m c) := by
  simp only [cc0_body_eq_skeleton]
  unfold cc0_body_skel BodyIn Ghost Credits Scratch LSems
  iintro ⟨#HC, ⟨HpB, HtY, HtX, HG⟩, ⟨HcB, HCr⟩, Ha, Hw, ⟨⟨Ho0, Ho1⟩, Hs, Hd0, Hd1⟩, ⟨HU, HY, HX⟩, ⟨⟨Hzo0, Hzo1⟩, ⟨Hzl0, Hzl1⟩, Hzs0, Hzs1⟩, HO⟩
  ihave #HC' := (show Ctx m ⊢ iprop(Rec m ∗ levAts L lv) from BI.Entails.refl _) $$ HC
  icases HC' with ⟨#HR, #Hl⟩
  iapply (opening m c h0 h1 h2 h3 h4 h5 h6 h7) $$ [HtY HtX Ha Ho0 Hzo0 HY HX HO]
  · isplitr; · iexact HR
    isplitl [HtY HtX]; · isplitl [HtY] <;> iassumption
    isplitl [Ha Ho0 Hzo0]
    · isplitl [Ha]; · iexact Ha
      isplitl [Ho0] <;> iassumption
    isplitl [HY HX]; · isplitl [HY] <;> iassumption
    iexact HO
  iintro %v2 %v5 %v6 %v7 %v8 %v10 ⟨HF, HO⟩
  simp only [k0_part15_eq_skeleton]
  unfold k0_part15_skel
  simp only [semWaitWord, Prog.lift, Prog.bind_op, Prog.bind_ret, Prog.pure_eq_ret, Prog.bind_assoc]
  iapply (barrier m c) $$ [HpB HcB HO]
  · isplitr; · iexact HC
    isplitl [HpB]; · iexact HpB
    isplitl [HcB] <;> iassumption
  iintro ⟨HzB, HY, HX, HO⟩
  ihave HD := (deal (F := F) c) $$ [Hs HG HCr HY HX]
  · isplitl [Hs]; · iexact Hs
    isplitl [HG]; · iexact HG
    isplitl [HCr]; · iexact HCr
    isplitl [HY] <;> iassumption
  icases HD with ⟨HA, HB, HCq, HP⟩
  iapply (loopA m c h0 h1 h2 h3 h4 h5 h6 h7) $$ [HF HO Ho1 Hzo1 Hw HA]
  · isplitr; · iexact HC
    unfold IA OSt
    isplitl [HF Ho1 Hzo1]
    · isplitl [Ho1]; · iexact Ho1
      isplitl [Hzo1] <;> iassumption
    isplitl [Hw]; · iexact Hw
    isplitl [HA]; · rw [fam_zero]; iexact HA
    iexact HO
  iintro ⟨-, HI⟩
  unfold IA
  rw [fam_all 8 le_rfl, ow_end, add_zero]
  icases HI with ⟨HSt, Hw, Hc0, HO⟩
  iapply (loopB m c h0 h1 h2 h3 h4 h5 h6 h7) $$ [HSt HO Hw HB HU Hd0 Hd1 Hzl0 Hzl1 Hzs0 Hzs1]
  · isplitr; · iexact HC
    unfold IB RSt
    isplitl [HSt]; · iexact HSt
    isplitl [Hw]; · iexact Hw
    isplitl [HB]; · rw [fam_zero]; iexact HB
    isplitr [HO]
    · unfold St UTodo UDone
      rw [dif_neg (by omega), dif_neg (by omega), fam_zero, show 0 - 2 = 0 from rfl, fam_zero]
      isplitl [Hzs0 Hd0]; · isplitl [Hzs0]; (· iexact Hzs0); iexact Hd0
      isplitl [Hzs1 Hd1]; · isplitl [Hzs1]; (· iexact Hzs1); iexact Hd1
      isplitl [HU]; · iexact HU
      isplitr; · iapply (nothing (F := F)); iempintro
      isplitl [Hzl0]; (· iexact Hzl0); iexact Hzl1
    iexact HO
  iintro ⟨-, HI⟩
  unfold IB
  rw [fam_all 8 le_rfl, ow_end]
  icases HI with ⟨HSt, Hw, HBD, HRt, HO⟩
  iapply (loopC m c h0 h1 h2 h3 h4 h5 h6 h7) $$ [HSt HO Hw HCq HRt]
  · isplitr; · iexact HC
    unfold IC
    isplitl [HSt]; · iexact HSt
    isplitl [Hw]; · iexact Hw
    isplitl [HCq]; · rw [fam_zero]; iexact HCq
    isplitl [HRt]; · iexact HRt
    iexact HO
  iintro ⟨-, HI⟩
  unfold IC
  rw [fam_all 8 le_rfl]
  icases HI with ⟨HSt, Hw, Hz3, HRt, HO⟩
  ihave HD := (deal_drain (F := F) c) $$ [Hc0 HBD HP]
  · isplitl [Hc0]; · iexact Hc0
    isplitl [HBD] <;> iassumption
  icases HD with ⟨HDq, Hz1⟩
  iapply (loopD m c h0 h1 h2 h3 h4 h5 h6 h7) $$ [HO HDq]
  · isplitr; · iexact HC
    unfold ID
    isplitl [HDq]; · rw [fam_zero]; iexact HDq
    iexact HO
  iintro ⟨-, HI⟩
  unfold ID
  rw [fam_all 8 le_rfl]
  icases HI with ⟨HDd, HO⟩
  ihave HD := (deal_end (F := F) c) $$ [HDd Hz1 Hz3]
  · isplitl [HDd]; · iexact HDd
    isplitl [Hz1] <;> iassumption
  icases HD with ⟨Hs, Hz⟩
  unfold RSt
  icases HRt with ⟨HS0, HS1, -, HU, Hzl0, Hzl1⟩
  iapply (wp_waitSt m c 16 ⟨by omega, by omega⟩ (stQ_sem (par 16) _ _ rfl) (N_u _ _) 0 (mayWait_0 c _)) $$ [HS0 HU HO]
  · isplitl [HS0]; · iexact HS0
    isplitl [HU]; · iexact HU
    isplitl [HO]; · iexact HO
    iexact Hl
  iintro ⟨Hzs0, Hd0, HU, HO⟩
  iapply (wp_waitSt m c 17 ⟨by omega, by omega⟩ (stQ_sem (par 17) _ _ rfl) (N_u _ _) 0 (mayWait_0 c _)) $$ [HS1 HU HO]
  · isplitl [HS1]; · iexact HS1
    isplitl [HU]; · iexact HU
    isplitl [HO]; · iexact HO
    iexact Hl
  iintro ⟨Hzs1, Hd1, HU, HO⟩
  unfold WP; rw [wp_ret]; imodintro
  unfold BodyOut LSems Scratch
  ihave HSt' := (OSt_end m c) $$ HSt
  ihave HU' := (UDone_end m c) $$ HU
  icases HSt' with ⟨Ho1, Hzo1, Ho0, Hzo0, Ha⟩
  isplitl [Ha]; · iexact Ha
  isplitl [Hw]; · iexact Hw
  isplitl [Ho0 Ho1 Hs Hd0 Hd1]
  · isplitl [Ho0 Ho1]; · isplitl [Ho0] <;> iassumption
    isplitl [Hs]; · iexact Hs
    isplitl [Hd0]; (· iexact Hd0); iexact Hd1
  isplitl [HU']; · iexact HU'
  isplitl [Hzo0 Hzo1 Hzl0 Hzl1 Hzs0 Hzs1]
  · isplitl [Hzo0 Hzo1]; · isplitl [Hzo0] <;> iassumption
    isplitl [Hzl0 Hzl1]; · isplitl [Hzl0]; (· iexact Hzl0); iexact Hzl1
    isplitl [Hzs0]; (· iexact Hzs0); iexact Hzs1
  isplitl [Hz]; · iexact Hz
  isplitl [HzB]; · iexact HzB
  iexact HO

end Body

end Cert.K
-- ==== Proof.Blocks.lean ====
/-
# Buffers held whole, and slot by slot
-/
module

public import proofs.«01_k».proof.Proof.Body
public import Idealize.ShloMosaic.Lib.Ring
public import Idealize.ShloMosaic.Lib.Pipeline.TableIdle

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles that tile -/

section Rects
variable {s : Shape} {B : Type} [Fintype B] (off : B → Fin s.rank → ℕ) (size : Fin s.rank → ℕ) (inb : ∀ b a, off b a + size a ≤ s.size a)

theorem tile_disjoint (h : ∀ (b b' : B) (i : s.Idx), (∀ a, off b a ≤ (i a).val ∧ (i a).val < off b a + size a) →
      (∀ a, off b' a ≤ (i a).val ∧ (i a).val < off b' a + size a) → b = b') (b b' : B) (hb : b ≠ b') :
    Disjoint (Rect.unit (off b) size (inb b)).set (Rect.unit (off b') size (inb b')).set :=
  Finset.disjoint_left.mpr fun i hi hi' => hb (h b b' i (Rect.mem_set_unit.mp hi) (Rect.mem_set_unit.mp hi'))

theorem tile_cover (h : ∀ i : s.Idx, ∃ b : B, ∀ a, off b a ≤ (i a).val ∧ (i a).val < off b a + size a) :
    Finset.univ.biUnion (fun b => (Rect.unit (off b) size (inb b)).set) = Finset.univ := by
  ext i
  obtain ⟨b, hb⟩ := h i
  simp only [Finset.mem_biUnion, Finset.mem_univ, true_and, iff_true]
  exact ⟨b, Rect.mem_set_unit.mpr hb⟩
end Rects

theorem o_disj (b b' : Fin 2) (h : b ≠ b') : Disjoint (Rect.unit (s := S2x128x16x128) ![b.val, 0, 0, 0] S1x128x16x128.size (o_inb b)).set (Rect.unit (s := S2x128x16x128) ![b'.val, 0, 0, 0] S1x128x16x128.size (o_inb b')).set :=
  Ring.lead_disjoint (s := S2x128x16x128) 0 1 (fun b : Fin 2 => ![b.val, 0, 0, 0]) _ o_inb (fun b => (Nat.one_mul _).symm) rfl b b' h
theorem o_cover : Finset.univ.biUnion (fun b : Fin 2 => (Rect.unit (s := S2x128x16x128) ![b.val, 0, 0, 0] S1x128x16x128.size (o_inb b)).set) = Finset.univ :=
  Ring.lead_cover (s := S2x128x16x128) 0 1 (fun b : Fin 2 => ![b.val, 0, 0, 0]) _ o_inb (fun b => (Nat.one_mul _).symm) (by decide +kernel) rfl (by decide +kernel) rfl
theorem d_disj (b b' : Fin 2) (h : b ≠ b') : Disjoint (Rect.unit (s := S2x128x4096) ![b.val, 0, 0] S1x128x4096.size (d_inb b)).set (Rect.unit (s := S2x128x4096) ![b'.val, 0, 0] S1x128x4096.size (d_inb b')).set :=
  Ring.lead_disjoint (s := S2x128x4096) 0 1 (fun b : Fin 2 => ![b.val, 0, 0]) _ d_inb (fun b => (Nat.one_mul _).symm) rfl b b' h
theorem d_cover : Finset.univ.biUnion (fun b : Fin 2 => (Rect.unit (s := S2x128x4096) ![b.val, 0, 0] S1x128x4096.size (d_inb b)).set) = Finset.univ :=
  Ring.lead_cover (s := S2x128x4096) 0 1 (fun b : Fin 2 => ![b.val, 0, 0]) _ d_inb (fun b => (Nat.one_mul _).symm) (by decide +kernel) rfl (by decide +kernel) rfl
theorem s_disj (b b' : Fin 8) (h : b ≠ b') : Disjoint (Rect.unit (s := S8x128x4096) ![b.val, 0, 0] S1x128x4096.size (s_inb b)).set (Rect.unit (s := S8x128x4096) ![b'.val, 0, 0] S1x128x4096.size (s_inb b')).set :=
  Ring.lead_disjoint (s := S8x128x4096) 0 1 (fun b : Fin 8 => ![b.val, 0, 0]) _ s_inb (fun b => (Nat.one_mul _).symm) rfl b b' h
theorem s_cover : Finset.univ.biUnion (fun b : Fin 8 => (Rect.unit (s := S8x128x4096) ![b.val, 0, 0] S1x128x4096.size (s_inb b)).set) = Finset.univ :=
  Ring.lead_cover (s := S8x128x4096) 0 1 (fun b : Fin 8 => ![b.val, 0, 0]) _ s_inb (fun b => (Nat.one_mul _).symm) (by decide +kernel) rfl (by decide +kernel) rfl

/-- Output chunk `n` of device `c` holds an index exactly when -/
theorem outOff_iff (c : Dev nD) (n : Fin 16) (i : S4x512x4096.Idx) :
    (∀ a, outOff c n a ≤ (i a).val ∧ (i a).val < outOff c n a + S1x128x4096.size a)
      ↔ (i 0).val = (n.val % 8) / 2 ∧ outOff c n 1 ≤ (i 1).val ∧ (i 1).val < outOff c n 1 + 128 := by
  constructor
  · intro h
    have h0 := h 0
    have h1 := h 1
    refine ⟨?_, h1⟩
    have h0' : (n.val % 8) / 2 ≤ (i 0).val ∧ (i 0).val < (n.val % 8) / 2 + 1 := h0
    omega
  · rintro ⟨h0, h1⟩ a
    fin_cases a
    · show (n.val % 8) / 2 ≤ (i 0).val ∧ (i 0).val < (n.val % 8) / 2 + 1
      omega
    · exact h1
    · exact ⟨Nat.zero_le _, by have := (i 2).isLt; show (i 2).val < 0 + 4096; rw [Nat.zero_add]; exact this⟩

theorem out_one (c : Dev nD) (n : Fin 16) : outOff c n 1 = 256 * ((n.val % 8) % 2) + 128 * (if n.val < 8 then c.val / 2 else 1 - c.val / 2) := rfl

/-- The chunk of device `c` that row `r` of batch `b` of its result lies in. -/
def outAt (c : Dev nD) (b r : ℕ) : ℕ := (if (r % 256) / 128 = c.val / 2 then 0 else 8) + (2 * b + r / 256)

theorem u_disj (c : Dev nD) (b b' : Fin 16) (h : b ≠ b') : Disjoint (Rect.unit (s := S4x512x4096) (outOff c b) S1x128x4096.size (outOff_inb c b)).set (Rect.unit (s := S4x512x4096) (outOff c b') S1x128x4096.size (outOff_inb c b')).set := by
  refine tile_disjoint (s := S4x512x4096) (outOff c) S1x128x4096.size (outOff_inb c) (fun n n' i hi hi' => ?_) b b' h
  obtain ⟨h0, h1, h2⟩ := (outOff_iff c n i).mp hi
  obtain ⟨h0', h1', h2'⟩ := (outOff_iff c n' i).mp hi'
  rw [out_one] at h1 h2 h1' h2'
  have hc : c.val / 2 < 2 := by have : c.val < 4 := c.isLt; omega
  have := n.isLt
  have := n'.isLt
  refine Fin.ext ?_
  split at h1 <;> split at h1' <;> simp only [*, if_true, if_false] at h2 h2' <;> omega
theorem outAt_spec (c : Dev nD) (b r : ℕ) (hb : b < 4) (hr : r < 512) : outAt c b r < 16 ∧ b = (outAt c b r % 8) / 2
    ∧ 256 * ((outAt c b r % 8) % 2) + 128 * (if outAt c b r < 8 then c.val / 2 else 1 - c.val / 2) ≤ r
    ∧ r < 256 * ((outAt c b r % 8) % 2) + 128 * (if outAt c b r < 8 then c.val / 2 else 1 - c.val / 2) + 128 := by
  have hc : c.val / 2 < 2 := by have : c.val < 4 := c.isLt; omega
  unfold outAt
  by_cases hx : (r % 256) / 128 = c.val / 2
  · rw [if_pos hx, if_pos (by omega)]; omega
  · rw [if_neg hx, if_neg (by omega)]; omega

theorem u_cover (c : Dev nD) : Finset.univ.biUnion (fun b : Fin 16 => (Rect.unit (s := S4x512x4096) (outOff c b) S1x128x4096.size (outOff_inb c b)).set) = Finset.univ := by
  refine tile_cover (s := S4x512x4096) (outOff c) S1x128x4096.size (outOff_inb c) fun i => ?_
  obtain ⟨hn, h⟩ := outAt_spec c (i 0).val (i 1).val (i 0).isLt (i 1).isLt
  exact ⟨⟨_, hn⟩, (outOff_iff c _ i).mpr h⟩

/-! ## A buffer held whole, and slot by slot -/

section Chop
variable (c : Dev nD) {B : Type} [Fintype B] [DecidableEq B]

theorem anyM_toRaw {sp : Space} {s : Shape} {e : EltTy} (M : Memref sig .tc sp s e) :
    anyM c M ⊢ (iprop(∃ f, M.view.loc (c : Thread nD τ) ↦[M.view.set]{fullShare} f) : sProp 𝕄) := by
  unfold anyM owns
  iintro ⟨%X, %f, -, H⟩
  iexists f; iexact H
theorem anyM_ofRaw {sp : Space} {s : Shape} {e : EltTy} (M : Memref sig .tc sp s e) (f : Buf (Elt F) (M.view.loc (c : Thread nD τ))) :
    (M.view.loc (c : Thread nD τ) ↦[M.view.set]{fullShare} f : sProp 𝕄) ⊢ anyM c M := by
  unfold anyM owns
  iintro H
  iexists (M.view.read (Elt F) f); iexists f
  isplitr; · ipureintro; rfl
  iexact H

/-- A whole buffer at some contents is its slots, each at some contents; -/
theorem chop (r : Ref sig .tc) {s' : Shape} (R : B → Rect r.ty.shape) (hr : ∀ b a, (R b).stride a = 1) (hs : ∀ b, (R b).shape.Squeezes s')
    (hd : ∀ b b', b ≠ b' → Disjoint (R b).set (R b').set) (hc : Finset.univ.biUnion (fun b => (R b).set) = Finset.univ) (f : Buf (Elt F) ((c : Thread nD τ).loc r)) :
    (((c : Thread nD τ).loc r) ↦{fullShare} f : sProp 𝕄)
      ⊢ bigSep Finset.univ fun b => anyM c (((Memref.whole r).slice (R b) (hr b)).squeeze s' (hs b)) := by
  rw [Ring.pointsTo_blocks (ℓ := (c : Thread nD τ).loc r) (fun b => (R b).set) hd hc f]
  refine bigSep_mono fun b _ => ?_
  refine BI.Entails.trans ?_ (anyM_ofRaw c _ f)
  rw [show (((Memref.whole r).slice (R b) (hr b)).squeeze s' (hs b)).view.set = (R b).set from (View.set_reshape _ _).trans (View.set_slice_whole _ _)]
  exact BI.Entails.refl _
theorem chop_back (r : Ref sig .tc) {s' : Shape} (R : B → Rect r.ty.shape) (hr : ∀ b a, (R b).stride a = 1) (hs : ∀ b, (R b).shape.Squeezes s')
    (hd : ∀ b b', b ≠ b' → Disjoint (R b).set (R b').set) (hc : Finset.univ.biUnion (fun b => (R b).set) = Finset.univ) (f₀ : Buf (Elt F) ((c : Thread nD τ).loc r)) :
    (bigSep Finset.univ fun b => anyM c (((Memref.whole r).slice (R b) (hr b)).squeeze s' (hs b)))
      ⊢ (iprop(∃ f : Buf (Elt F) ((c : Thread nD τ).loc r), ((c : Thread nD τ).loc r) ↦{fullShare} f) : sProp 𝕄) := by
  refine BI.Entails.trans ?_ (Ring.pointsTo_blocks_join_exists (ℓ := (c : Thread nD τ).loc r) (fun b => (R b).set) hd hc f₀)
  refine bigSep_mono fun b _ => ?_
  refine BI.Entails.trans (anyM_toRaw c _) ?_
  rw [show (((Memref.whole r).slice (R b) (hr b)).squeeze s' (hs b)).view.set = (R b).set from (View.set_reshape _ _).trans (View.set_slice_whole _ _)]
  exact BI.Entails.refl _
end Chop

end Cert.K
-- ==== Proof.Deal.lean ====
/-
# What the launch deals each device
-/
module

public import proofs.«01_k».proof.Proof.Blocks
public import proofs.«01_k».proof.Proof.Gen.KernelIdeal.Launch

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and tokens dealt at launch -/

/-- The kernel's own semaphores: of the copies inside a device, and of those between devices. -/
abbrev KS : Type := (Fin 3 × Fin 2) ⊕ (Fin 4 × Fin 8)
abbrev osem : KS → SemLoc sig
  | .inl p => .dma (lQ p.1 p.2)
  | .inr p => .dma (tQ p.1 p.2)

theorem ownSemFacts : Pipeline.OwnSemFacts cfg0.spec osem := by decide +kernel

theorem tQ_inj {j j' : Fin 4} {a a' : Fin 8} (h : tQ j a = tQ j' a') : j = j' ∧ a = a' := by
  have := (kind_tQ j a).symm.trans ((congrArg kind h).trans (kind_tQ j' a'))
  exact Prod.mk.inj (Option.some.inj this)

theorem kcell_injective : Function.Injective (fun p : Dev nD × CK => kcell p.1 p.2) := by
  rintro ⟨c, k⟩ ⟨c', k'⟩ h
  have h1 : c = c' := congrArg (fun g : GSem nD τ sig => g.1.1) h
  have h2 : csem k = csem k' := congrArg Prod.snd h
  subst h1
  rcases k with _ | ⟨j, a⟩ <;> rcases k' with _ | ⟨j', a'⟩
  · rfl
  · cases h2
  · cases h2
  · obtain ⟨rfl, rfl⟩ := tQ_inj (SemLoc.dma.inj h2); rfl

/-- The duties of a device's own cells: the two of its barrier's, and one of each slot's. -/
abbrev TK : Type := Bool ⊕ (Fin 4 × Fin 8)
abbrev tokOf (p : Dev nD × TK) : GSem nD τ sig × ℕ × Bool := match p.2 with
  | .inl d => (barCell p.1, 0, d)
  | .inr q => (tCell p.1 q.1 q.2, 0, false)
theorem tokOf_injective : Function.Injective tokOf := by
  rintro ⟨c, k⟩ ⟨c', k'⟩ h
  have h1 : c = c' := by
    have := congrArg (fun x : GSem nD τ sig × ℕ × Bool => x.1.1.1) h
    rcases k with d | ⟨j, a⟩ <;> rcases k' with d' | ⟨j', a'⟩ <;> exact this
  subst h1
  have h2 := congrArg (fun x : GSem nD τ sig × ℕ × Bool => x.1.2) h
  have h3 := congrArg (fun x : GSem nD τ sig × ℕ × Bool => x.2.2) h
  rcases k with d | ⟨j, a⟩ <;> rcases k' with d' | ⟨j', a'⟩
  · have : d = d' := h3
    rw [this]
  · cases h2
  · cases h2
  · obtain ⟨rfl, rfl⟩ := tQ_inj (SemLoc.dma.inj h2); rfl

def theCells : Finset (GSem nD τ sig) := Finset.univ.map ⟨fun p : Dev nD × CK => kcell p.1 p.2, kcell_injective⟩
def theToks : Finset (GSem nD τ sig × ℕ × Bool) := Finset.univ.map ⟨tokOf, tokOf_injective⟩

def u₀ : UU :=
  (initOf (Pipeline.cells cfgs cellOf_inj) (Pipeline.launchToks cfgs cellOf_inj), (initOf theCells theToks, 1))

/-! ## Families over the cells -/

theorem bigSep_CK (Φ : CK → sProp 𝕄) :
    bigSep Finset.univ Φ = iprop(Φ none ∗ bigSep Finset.univ fun p : Fin 4 × Fin 8 => Φ (some p)) := by
  rw [bigSep_univ_at Φ none]
  rw [show (Finset.univ.erase none : Finset CK) = Finset.univ.map Function.Embedding.some from by
    ext k; rcases k with _ | p <;> simp, bigSep_map]
  rfl
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin2 (Φ : Fin 2 → sProp 𝕄) : bigSep Finset.univ Φ = iprop(Φ 0 ∗ Φ 1) :=
  bigSep_univ_eq_bigSepL [0, 1] (by decide) (by decide) Φ
theorem bools (Φ : Bool → sProp 𝕄) : bigSep Finset.univ Φ = iprop(Φ false ∗ Φ true) :=
  bigSep_univ_eq_bigSepL [false, true] (by decide) (by decide) Φ
theorem bigSep_TK (Φ : TK → sProp 𝕄) :
    bigSep Finset.univ Φ = iprop((Φ (.inl false) ∗ Φ (.inl true)) ∗ bigSep Finset.univ fun p : Fin 4 × Fin 8 => Φ (.inr p)) := by
  rw [bigSep_univ_sum, bools]; rfl
theorem bigSep_tk (Φ : Fin 4 → Fin 8 → sProp 𝕄) : (bigSep Finset.univ fun p : Fin 4 × Fin 8 => Φ p.1 p.2)
    = iprop((bigSep Finset.univ fun a => Φ 0 a) ∗ (bigSep Finset.univ fun a => Φ 1 a) ∗ (bigSep Finset.univ fun a => Φ 2 a) ∗ bigSep Finset.univ fun a => Φ 3 a) := by
  rw [bigSep_univ_prod, fin4]

/-! ## Dealing -/

/-- The duty tokens of device `c`'s own cells, -/
def toks (c : Dev nD) : sProp 𝕄 := bigSep Finset.univ fun k : TK => dutyTok ER (tokOf (c, k)).1 (tokOf (c, k)).2.1 (tokOf (c, k)).2.2
/-- and with its cells' states and its places what device `c` is dealt. -/
def G (c : Dev nD) : sProp 𝕄 :=
  iprop((bigSep Finset.univ fun k : CK => roundState ER (Rd m) (kcell c k) 0)
    ∗ (bigSep Finset.univ fun k : CK => iprop(atPos ER (kcell c k) 0 ∅ 0 ∗ reached ER (kcell c k) 0)) ∗ toks c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (kcell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero: of the copies inside it, and its cells of the protocol. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun p : Fin 3 × Fin 2 => sz c (lQ p.1 p.2)) ∗ bigSep Finset.univ fun k : CK => semVal (kcell c k) 0) : sProp 𝕄) := by
  unfold Pipeline.ownSems0
  rw [unscopedSems0_eq, bigSep_CK, bigSep_univ_sum]
  refine (show iprop(((bigSep Finset.univ fun p : Fin 3 × Fin 2 => (sz c (lQ p.1 p.2) : sProp 𝕄)) ∗ bigSep Finset.univ fun p : Fin 4 × Fin 8 => sz c (tQ p.1 p.2)) ∗ semVal (barCell c) 0)
    ⊢ iprop((bigSep Finset.univ fun p : Fin 3 × Fin 2 => sz c (lQ p.1 p.2)) ∗ semVal (barCell c) 0 ∗ bigSep Finset.univ fun p : Fin 4 × Fin 8 => sz c (tQ p.1 p.2)) from ?_)
  iintro ⟨⟨Hl, Ht⟩, HB⟩
  isplitl [Hl]; · iexact Hl
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks c
          ∗ bigSep Finset.univ fun p : Fin 3 × Fin 2 => sz c (lQ p.1 p.2)) := by
  unfold G
  iintro ⟨Hos, Hus, Hst, Hat, Htok⟩
  ihave Hv := (sems0_eq (F := F) c) $$ [Hos Hus]
  · isplitl [Hos] <;> iassumption
  icases Hv with ⟨Hl, Hv⟩
  imod (show iprop((bigSep Finset.univ fun k : CK => semVal (kcell c k) 0) ∗ bigSep Finset.univ fun k : CK => roundState ER (Rd m) (kcell c k) 0)
      ⊢ (|={Set.univ}=> bigSep Finset.univ fun k : CK => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What each device starts from: the records, its places and the tokens of the duties it pays, its copies' semaphores. -/
def G' (c : Dev nD) : sProp 𝕄 := iprop(Rec m ∗ Ghost c ∗ bigSep Finset.univ fun p : Fin 3 × Fin 2 => sz c (lQ p.1 p.2))

/-- A device's own cells' tokens kind by kind, -/
def toks' (c : Dev nD) : sProp 𝕄 :=
  iprop((dutyTok ER (barCell c) 0 false ∗ dutyTok ER (barCell c) 0 true)
    ∗ (bigSep Finset.univ fun a : Fin 8 => tok c 0 a) ∗ (bigSep Finset.univ fun a : Fin 8 => tok c 1 a)
    ∗ (bigSep Finset.univ fun a : Fin 8 => tok c 2 a) ∗ bigSep Finset.univ fun a : Fin 8 => tok c 3 a)
/-- the tokens of the duties it pays, -/
def payToks (c : Dev nD) : sProp 𝕄 :=
  iprop((dutyTok ER (barCell (py c)) 0 false ∗ dutyTok ER (barCell (px c)) 0 true)
    ∗ (bigSep Finset.univ fun a : Fin 8 => tok c 0 a) ∗ (bigSep Finset.univ fun a : Fin 8 => tok (py c) 1 a)
    ∗ (bigSep Finset.univ fun a : Fin 8 => tok c 2 a) ∗ bigSep Finset.univ fun a : Fin 8 => tok (px c) 3 a)
theorem toks_eq (c : Dev nD) : (toks c : sProp 𝕄) = toks' c := by
  unfold toks toks'
  rw [bigSep_TK]
  congr 1
  exact bigSep_tk (F := F) fun j a => tok c j a
/-- and the first dealt around to give the second. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold toks' payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSep Finset.univ fun a : Fin 8 => tok c 1 a : sProp 𝕄)),
    bigSep_univ_equiv xE (fun c : Dev nD => (bigSep Finset.univ fun a : Fin 8 => tok c 3 a : sProp 𝕄))]
  exact BI.Entails.refl _

theorem ghost_intro (c : Dev nD) : iprop((bigSep Finset.univ fun k : CK => atPos ER (kcell c k) 0 ∅ 0) ∗ payToks c) ⊢ (Ghost c : sProp 𝕄) := by
  unfold payToks Ghost
  rw [bigSep_CK, bigSep_tk (F := F) fun j a => pos c j a]
  simp only [bigSep_sep']
  iintro ⟨⟨HB, Hp0, Hp1, Hp2, Hp3⟩, ⟨HtB, HtB'⟩, Ht0, Ht1, Ht2, Ht3⟩
  isplitl [HB]; · iexact HB
  isplitl [HtB]; · iexact HtB
  isplitl [HtB']; · iexact HtB'
  isplitl [Hp0 Hp1 Hp2 Hp3]
  · isplitl [Hp0]; · iexact Hp0
    isplitl [Hp1]; · iexact Hp1
    isplitl [Hp2] <;> iassumption
  isplitl [Ht0]; · iexact Ht0
  isplitl [Ht1]; · iexact Ht1
  isplitl [Ht2] <;> iassumption

theorem regroup :
    (bigSep Finset.univ fun c : Dev nD => iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks c
          ∗ bigSep Finset.univ fun p : Fin 3 × Fin 2 => sz c (lQ p.1 p.2)) : sProp 𝕄)
      ⊢ bigSep Finset.univ (G' m) := by
  simp only [bigSep_sep']
  rw [← bigSep_univ_prod (fun p : Dev nD × CK => iprop(∃ κ : ℕ, cellInv ER (Rd m) κ (kcell p.1 p.2))),
    ← bigSep_univ_prod (fun p : Dev nD × CK => (reached ER (kcell p.1 p.2) 0 : sProp 𝕄))]
  iintro ⟨HI, ⟨Hat, #HR⟩, Htok, Hl⟩
  ihave HK := (BI.bigSep_exists_pi Finset.univ (fun (p : Dev nD × CK) (κ : ℕ) => (cellInv ER (Rd m) κ (kcell p.1 p.2) : sProp 𝕄))) $$ HI
  icases HK with ⟨%K, #HI⟩
  ihave Htk := (toks_around (F := F)) $$ Htok
  ihave #Hrec := (show iprop((bigSep Finset.univ fun p : Dev nD × CK => cellInv ER (Rd m) (K p) (kcell p.1 p.2))
      ∗ bigSep Finset.univ fun p : Dev nD × CK => reached ER (kcell p.1 p.2) 0) ⊢ Rec m from by
    unfold Rec; iintro H; iexists K; iexact H) $$ []
  · isplitr; · iexact HI
    iexact HR
  ihave Hgh := (show iprop((bigSep Finset.univ fun c : Dev nD => bigSep Finset.univ fun k : CK => (atPos ER (kcell c k) 0 ∅ 0 : sProp 𝕄)) ∗ bigSep Finset.univ fun c : Dev nD => payToks c)
      ⊢ bigSep Finset.univ fun c : Dev nD => (Ghost c : sProp 𝕄) from by
    rw [← bigSep_sep']; exact bigSep_mono fun c _ => ghost_intro c) $$ [Hat Htk]
  · isplitl [Hat] <;> iassumption
  ihave Hrecs := (BI.bigSep_of_persistent (Finset.univ : Finset (Dev nD)) (Rec m)) $$ Hrec
  unfold G'
  simp only [bigSep_sep']
  isplitl [Hrecs]; · iexact Hrecs
  isplitl [Hgh] <;> iassumption

/-- All devices' semaphores and dealt shares at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem t_eq_iff {c d : Dev nD} {j j' : Fin 4} {a a' : Fin 8} : tCell c j a = tCell d j' a' ↔ c = d ∧ j = j' ∧ a = a' :=
  ⟨fun h => ⟨congrArg (fun g : GSem nD τ sig => g.1.1) h, tQ_inj (SemLoc.dma.inj (congrArg Prod.snd h))⟩, fun ⟨h1, h2, h3⟩ => by rw [h1, h2, h3]⟩
theorem bar_ne_t {c d : Dev nD} {j : Fin 4} {a : Fin 8} : barCell c ≠ tCell d j a := fun h => by cases congrArg Prod.snd h

theorem ow_bar (d c : Dev nD) (j : Fin 4) (k : ℕ) : ow d j k (barCell c) () = 0 := by
  by_contra h
  obtain ⟨a, e⟩ := ow_pos (Nat.pos_of_ne_zero h)
  exact bar_ne_t e
theorem ow_t (d c : Dev nD) (j j' : Fin 4) (a : Fin 8) : ow d j 0 (tCell c j' a) () = if d = c ∧ j' = j then N else 0 := by
  unfold ow
  rw [Finset.sum_apply, Finsupp.finset_sum_apply]
  rw [Finset.sum_congr rfl (g := fun b => if b = a then (if d = c ∧ j' = j then N else 0) else 0) fun b _ => ?_]
  · rw [Finset.sum_ite_eq' Finset.univ a fun _ => _, if_pos (Finset.mem_univ _)]
  · rw [if_pos (Nat.zero_le _), tallyAt_apply]
    by_cases hb : b = a
    · subst hb
      rw [if_pos rfl]
      by_cases h : d = c ∧ j' = j
      · obtain ⟨rfl, rfl⟩ := h; rw [if_pos ⟨rfl, rfl⟩, if_pos ⟨rfl, rfl⟩]
      · rw [if_neg h, if_neg fun h' => h ⟨(t_eq_iff.mp h'.1).1.symm, (t_eq_iff.mp h'.1).2.1⟩]
    · rw [if_neg hb, if_neg fun h' => hb (t_eq_iff.mp h'.1).2.2.symm]

theorem O₀_apply (d : Dev nD) (g : GSem nD τ sig) : O₀ d g () = ow (px d) 3 0 g () + ow (py d) 1 0 g ()
    + tallyAt (barCell (px d)) () 1 g () + tallyAt (barCell (py d)) () 1 g () := by
  unfold O₀ O₁
  simp only [Pi.add_apply, Finsupp.add_apply]

theorem px_eq_iff (d c : Dev nD) : px d = c ↔ d = px c := ⟨fun h => by rw [← h, px_px], fun h => by rw [h, px_px]⟩
theorem py_eq_iff (d c : Dev nD) : py d = c ↔ d = py c := ⟨fun h => by rw [← h, py_py], fun h => by rw [h, py_py]⟩

theorem owed_bar (d c : Dev nD) : O₀ d (barCell c) () = (if d = px c then 1 else 0) + (if d = py c then 1 else 0) := by
  rw [O₀_apply, ow_bar, ow_bar, tallyAt_apply, tallyAt_apply]
  simp only [bar_eq_iff, and_true, eq_comm (a := c), px_eq_iff, py_eq_iff, zero_add]
theorem tally_bar_t (b c : Dev nD) (j : Fin 4) (a : Fin 8) (n : ℕ) : (tallyAt (barCell b) () n : CellTallies nD τ sig Unit) (tCell c j a) () = 0 := by
  rw [tallyAt_apply, if_neg fun h => bar_ne_t h.1.symm]
theorem owed_y (d c : Dev nD) (a : Fin 8) : O₀ d (tCell c 1 a) () = if d = py c then N else 0 := by
  rw [O₀_apply, ow_t, ow_t, tally_bar_t, tally_bar_t]
  have h31 : ¬(1 : Fin 4) = 3 := by decide
  by_cases h : d = py c
  · simp [h, py_py, h31]
  · simp [h, h31, py_eq_iff]
theorem owed_x (d c : Dev nD) (a : Fin 8) : O₀ d (tCell c 3 a) () = if d = px c then N else 0 := by
  rw [O₀_apply, ow_t, ow_t, tally_bar_t, tally_bar_t]
  have h31 : ¬(3 : Fin 4) = 1 := by decide
  by_cases h : d = px c
  · simp [h, px_px, h31]
  · simp [h, h31, px_eq_iff]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (px c) fun _ => 1, Finset.sum_ite_eq' Finset.univ (py c) fun _ => 1, if_pos (Finset.mem_univ _), if_pos (Finset.mem_univ _)]
theorem launch_y (c : Dev nD) (a : Fin 8) :
    tallyOn (tCell c 1 a) (launchCredit (Pipeline.owing O₀) 0 (tCell c 1 a)) = (tallyAt (tCell c 1 a) () N : CellTallies nD τ sig Unit) := by
  unfold tallyAt; refine congrArg _ (Finsupp.ext fun u => ?_); cases u
  rw [Pipeline.launchCredit_owing, Finsupp.single_eq_same, Finset.sum_congr rfl fun d _ => owed_y d c a, Finset.sum_ite_eq' Finset.univ (py c) fun _ => N,
    if_pos (Finset.mem_univ _)]
theorem launch_x (c : Dev nD) (a : Fin 8) :
    tallyOn (tCell c 3 a) (launchCredit (Pipeline.owing O₀) 0 (tCell c 3 a)) = (tallyAt (tCell c 3 a) () N : CellTallies nD τ sig Unit) := by
  unfold tallyAt; refine congrArg _ (Finsupp.ext fun u => ?_); cases u
  rw [Pipeline.launchCredit_owing, Finsupp.single_eq_same, Finset.sum_congr rfl fun d _ => owed_x d c a, Finset.sum_ite_eq' Finset.univ (px c) fun _ => N,
    if_pos (Finset.mem_univ _)]

/-- The cells a device is credited at. -/
abbrev crSem : Unit ⊕ (Fin 8 ⊕ Fin 8) → SemLoc sig
  | .inl _ => .reg barS
  | .inr (.inl a) => .dma (tQ 1 a)
  | .inr (.inr a) => .dma (tQ 3 a)
theorem crSem_injective : Function.Injective crSem := by decide +kernel

theorem creds (c : Dev nD) : (Pipeline.launchCred O₀ c : sProp 𝕄) ⊢ Credits c := by
  unfold Pipeline.launchCred Credits
  refine (show (bigSep Finset.univ fun sm : SemLoc sig => (cred (tallyOn ((c : Thread nD τ), sm) (launchCredit (Pipeline.owing O₀) 0 ((c : Thread nD τ), sm))) : sProp 𝕄)) ⊢
    bigSep (Finset.univ.map ⟨crSem, crSem_injective⟩) _ from BI.bigSep_subset (Finset.subset_univ _)).trans ?_
  rw [bigSep_map, bigSep_univ_sum, bigSep_univ_sum, bigSep_sep']
  refine Entails.of_eq ?_
  congr 1
  · rw [show (Finset.univ : Finset Unit) = {()} from rfl, bigSep_singleton]
    exact congrArg _ (launch_bar c)
  · congr 1
    · exact bigSep_congr fun a _ => congrArg _ (launch_y c a)
    · exact bigSep_congr fun a _ => congrArg _ (launch_x c a)

end Cert.K
-- ==== Proof.Launch.lean ====
/-
# The launch and the run of the four devices
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The result buffer put together from its chunks -/

theorem uS_set (c : Dev nD) (n : Fin 16) : (uS c n).view.set = (Rect.unit (s := S4x512x4096) (outOff c n) S1x128x4096.size (outOff_inb c n)).set :=
  (View.set_reshape _ _).trans (View.set_slice_whole _ _)

theorem out_rep (c : Dev nD) (n : Fin 16) (X : S128x4096.Idx → Elt F .f32) :
    (owns (c : Thread nD τ) (uS c n) fullShare X : sProp 𝕄)
      ⊢ ((c : Thread nD τ).loc main_v1_0) ↦[(Rect.unit (s := S4x512x4096) (outOff c n) S1x128x4096.size (outOff_inb c n)).set]{fullShare} (uS c n).view.rep X := by
  rw [owns_eq_rep, uS_set]

theorem out_join (c : Dev nD) :
    (bigSep Finset.univ fun n : Fin 16 => owns (c : Thread nD τ) (uS c n) fullShare (rVal m c n))
      ⊢ (iprop(∃ g : Buf (Elt F) ((c : Thread nD τ).loc main_v1_0), ⌜∀ n, (uS c n).view.read (Elt F) g = rVal m c n⌝ ∗ ((c : Thread nD τ).loc main_v1_0) ↦{fullShare} g) : sProp 𝕄) := by
  refine (bigSep_mono fun n _ => out_rep c n (rVal m c n)).trans ?_
  refine (pointsTo_biUnion_join (ℓ := (c : Thread nD τ).loc main_v1_0) Finset.univ
    (fun n : Fin 16 => (Rect.unit (s := S4x512x4096) (outOff c n) S1x128x4096.size (outOff_inb c n)).set) (fun n => (uS c n).view.rep (rVal m c n))
    (m ((c : Thread nD τ).loc main_v1_0)) (fun n _ n' _ h => u_disj c n n' h)).trans ?_
  rw [u_cover]
  refine (show iprop(∃ g : Buf (Elt F) ((c : Thread nD τ).loc main_v1_0), ⌜∀ n ∈ (Finset.univ : Finset (Fin 16)), ∀ i ∈ (Rect.unit (s := S4x512x4096) (outOff c n) S1x128x4096.size (outOff_inb c n)).set, g i = (uS c n).view.rep (rVal m c n) i⌝
      ∗ ((c : Thread nD τ).loc main_v1_0) ↦{fullShare} g) ⊢ (_ : sProp 𝕄) from ?_)
  iintro ⟨%g, %hg, H⟩
  iexists g
  isplitr
  · ipureintro
    intro n
    refine (View.read_congr (v := (uS c n).view) (f := g) (g := (uS c n).view.rep (rVal m c n)) fun i hi => hg n (Finset.mem_univ _) i ?_).trans (View.read_rep _ _)
    rw [uS_set] at hi; exact hi
  iexact H

/-! ## Before and after the body -/

def start (c : Dev nD) : sProp 𝕄 :=
  iprop(Ctx m ∗ Ghost c ∗ Credits c ∗ aPts m c
    ∗ ((bigSep Finset.univ fun n : Fin 16 => anyM c (uS c n)) ∗ (bigSep Finset.univ fun a : Fin 8 => anyM c (yS a)) ∗ bigSep Finset.univ fun a : Fin 8 => anyM c (xS a))
    ∗ LSems c)
def Φ₀ (c : Dev nD) : sProp 𝕄 := iprop(start m c ∗ Scratch c)
def Φ₁ (c : Dev nD) : sProp 𝕄 :=
  iprop(aPts m c ∗ Scratch c ∗ (bigSep Finset.univ fun n : Fin 16 => owns (c : Thread nD τ) (uS c n) fullShare (rVal m c n))
    ∗ LSems c ∗ (bigSep Finset.univ fun a : Fin 8 => iprop((sz c (tQ 0 a) ∗ sz c (tQ 1 a)) ∗ sz c (tQ 2 a) ∗ sz c (tQ 3 a)))
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => wVal m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

abbrev t₀ : Fin cfg0.N := t0_0

def bodyPre (c : Dev nD) : sProp 𝕄 :=
  iprop(Φ₀ m c ∗ (dats m 0 c).owesAt () t₀.castSucc
    ∗ ∃ d, ∃ g : (cc0_stg0_0 : Ref sig .tc).ty.Contents (Elt F), ⌜g = (dats m 0 c).before (0 : Fin 1) t₀ d⌝ ∗ ((c : Thread nD τ).loc cc0_stg0_0) ↦{fullShare} g)
def bodyPost (c : Dev nD) : sProp 𝕄 :=
  iprop(Φ₁ m c ∗ (dats m 0 c).owesAt () t₀.succ
    ∗ ∃ g : (cc0_stg0_0 : Ref sig .tc).ty.Contents (Elt F), ⌜g = wVal m c⌝ ∗ ((c : Thread nD τ).loc cc0_stg0_0) ↦{fullShare} g)

theorem body_in (c : Dev nD) : bodyPre m c ⊢ BodyIn m c := by
  unfold bodyPre Φ₀ start BodyIn
  iintro ⟨⟨⟨HC, HG, Hcr, HA, HB, HL⟩, HS⟩, Ho, ⟨%d, %g, %hg, HW⟩⟩
  have hx : g = wVal m c := by rw [hg]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  isplitl [HC]; · iexact HC
  isplitl [HG]; · iexact HG
  isplitl [Hcr]; · iexact Hcr
  isplitl [HA]; · iexact HA
  isplitl [HW]; · unfold wPts; iexact HW
  isplitl [HS]; · iexact HS
  isplitl [HB]; · iexact HB
  isplitl [HL]; · iexact HL
  iexists W; iexact HO

theorem body_out (c : Dev nD) : BodyOut m c ⊢ bodyPost m c := by
  unfold bodyPost Φ₁ BodyOut
  iintro ⟨HA, HW, HS, HU, HL, HT, HB, ⟨%W, HO⟩⟩
  isplitl [HA HS HU HL HT HB]
  · isplitl [HA]; · iexact HA
    isplitl [HS]; · iexact HS
    isplitl [HU]; · iexact HU
    isplitl [HL]; · iexact HL
    isplitl [HT] <;> iassumption
  isplitl [HO]
  · unfold Dat.owesAt Pipeline.owesWithin
    rw [show (dats m 0 c).owed t₀.succ = 0 from rfl]
    iexists W; isplitr; · ipureintro; exact fun _ _ => Or.inl trivial
    iexact HO
  iexists _; isplitr; · (ipureintro; rfl)
  unfold wPts; iexact HW

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (cc0_body aM (Memref.isWhole_whole _) wM (Memref.isWhole_whole _) uM (Memref.isWhole_whole _) yM (Memref.isWhole_whole _) xM (Memref.isWhole_whole _)
    oM (Memref.isWhole_whole _) sM (Memref.isWhole_whole _) dM (Memref.isWhole_whole _) cc0_scratch3 cc0_scratch4 cc0_scratch5 cc0_scratch6 cc0_scratch7 cc0_scratch8 cc0_scratch9) (fun _ => bodyPost m c)
  exact ((body_in m c).trans (sound_body m c (Memref.isWhole_whole _) (Memref.isWhole_whole _) (Memref.isWhole_whole _) (Memref.isWhole_whole _)
    (Memref.isWhole_whole _) (Memref.isWhole_whole _) (Memref.isWhole_whole _) (Memref.isWhole_whole _))).trans (wp_mono _ _ _ fun _ => body_out m c)

/-! ## The launch's side conditions -/

theorem lsems_eq (c : Dev nD) : (bigSep Finset.univ fun p : Fin 3 × Fin 2 => (sz c (lQ p.1 p.2) : sProp 𝕄)) = LSems c := by
  rw [bigSep_univ_prod, bigSep_univ_eq_bigSepL [(0 : Fin 3), 1, 2] (by decide) (by decide)]
  show iprop(bigSep Finset.univ (fun b : Fin 2 => sz c (lQ 0 b)) ∗ bigSep Finset.univ (fun b : Fin 2 => sz c (lQ 1 b)) ∗ bigSep Finset.univ (fun b : Fin 2 => sz c (lQ 2 b))) = (_ : sProp 𝕄)
  rw [fin2, fin2, fin2]
  rfl

theorem sems_back (c : Dev nD) :
    iprop(LSems c ∗ bigSep Finset.univ fun a : Fin 8 => iprop((sz c (tQ 0 a) ∗ sz c (tQ 1 a)) ∗ sz c (tQ 2 a) ∗ sz c (tQ 3 a)))
      ⊢ (Pipeline.ownSems0 (Ix := Unit) (Name := ℕ) (U := UU) (Lvl := ℕ) (Val := Elt F) (τ := τ) osem c : sProp 𝕄) := by
  unfold Pipeline.ownSems0
  rw [bigSep_univ_sum, ← lsems_eq]
  simp only [bigSep_sep']
  refine (show _ ⊢ iprop((bigSep Finset.univ fun p : Fin 3 × Fin 2 => (sz c (lQ p.1 p.2) : sProp 𝕄)) ∗ bigSep Finset.univ fun p : Fin 4 × Fin 8 => sz c (tQ p.1 p.2)) from ?_)
  rw [bigSep_tk (F := F) fun j a => sz c (tQ j a)]
  iintro ⟨Hl, ⟨H0, H1⟩, H2, H3⟩
  isplitl [Hl]; · iexact Hl
  isplitl [H0]; · iexact H0
  isplitl [H1]; · iexact H1
  isplitl [H2] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HA, HU, HY, HX⟩, Hlev, Hcr, -, HG⟩
  ihave Hc := (creds (F := F) c) $$ Hcr
  ihave HU := (chop c main_v1_0 (fun n : Fin 16 => Rect.unit (s := S4x512x4096) (outOff c n) S1x128x4096.size (outOff_inb c n)) (fun _ _ => rfl) (fun _ => squeezes_S1x128x4096_S128x4096) (u_disj c) (u_cover c) _) $$ HU
  ihave HY := (chop c main_v1_1 (fun a : Fin 8 => Rect.unit (s := S8x128x4096) ![a.val, 0, 0] S1x128x4096.size (s_inb a)) (fun _ _ => rfl) (fun _ => squeezes_S1x128x4096_S128x4096) s_disj s_cover _) $$ HY
  ihave HX := (chop c main_v1_2 (fun a : Fin 8 => Rect.unit (s := S8x128x4096) ![a.val, 0, 0] S1x128x4096.size (s_inb a)) (fun _ _ => rfl) (fun _ => squeezes_S1x128x4096_S128x4096) s_disj s_cover _) $$ HX
  imodintro
  unfold start G' Ctx
  icases HG with ⟨HR, HG, HL⟩
  ihave HL := (Entails.of_eq (lsems_eq (F := F) c)) $$ HL
  isplitl
  · isplitl [HR Hlev]; · isplitl [HR] <;> iassumption
    isplitl [HG]; · iexact HG
    isplitl [Hc]; · iexact Hc
    isplitl [HA]; · unfold aPts; iexact HA
    isplitl [HU HY HX]
    · isplitl [HU]; · iexact HU
      isplitl [HY] <;> iassumption
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, ⟨%f0, H0⟩, ⟨%f1, H1⟩, ⟨%f2, H2⟩⟩
  ihave H0 := (chop c cc0_scratch0 (fun b : Fin 2 => Rect.unit (s := S2x128x16x128) ![b.val, 0, 0, 0] S1x128x16x128.size (o_inb b)) (fun _ _ => rfl) (fun _ => squeezes_S1x128x16x128_S128x16x128) o_disj o_cover f0) $$ H0
  ihave H1 := (chop c cc0_scratch1 (fun a : Fin 8 => Rect.unit (s := S8x128x4096) ![a.val, 0, 0] S1x128x4096.size (s_inb a)) (fun _ _ => rfl) (fun _ => squeezes_S1x128x4096_S128x4096) s_disj s_cover f1) $$ H1
  ihave H2 := (chop c cc0_scratch2 (fun b : Fin 2 => Rect.unit (s := S2x128x4096) ![b.val, 0, 0] S1x128x4096.size (d_inb b)) (fun _ _ => rfl) (fun _ => squeezes_S1x128x4096_S128x4096) d_disj d_cover f2) $$ H2
  ihave H0 := (Entails.of_eq (fin2 (F := F) fun b => anyM c (oS b))) $$ H0
  ihave H2 := (Entails.of_eq (fin2 (F := F) fun b => anyM c (dS b))) $$ H2
  isplitl [Hs]; · iexact Hs
  isplitl [H0]; · iexact H0
  isplitl [H1]; · iexact H1
  iexact H2

/-- What a device holds at the end that the final memory is read by. -/
def finish (c : Dev nD) : sProp 𝕄 :=
  iprop(unscopedSems0 c ∗ aPts m c ∗ ∃ g : Buf (Elt F) ((c : Thread nD τ).loc main_v1_0), ⌜∀ n, (uS c n).view.read (Elt F) g = rVal m c n⌝ ∗ ((c : Thread nD τ).loc main_v1_0) ↦{fullShare} g)

include m in
theorem scratch_back (c : Dev nD) : (Scratch c : sProp 𝕄) ⊢ Pipeline.scopedRest cfg0.spec c := by
  rw [scopedRest0_eq]
  unfold Scratch
  iintro ⟨H0, H1, H2⟩
  ihave H0 := (Entails.of_eq (fin2 (F := F) fun b => anyM c (oS b)).symm) $$ H0
  ihave H2 := (Entails.of_eq (fin2 (F := F) fun b => anyM c (dS b)).symm) $$ H2
  ihave H0 := (chop_back c cc0_scratch0 (fun b : Fin 2 => Rect.unit (s := S2x128x16x128) ![b.val, 0, 0, 0] S1x128x16x128.size (o_inb b)) (fun _ _ => rfl) (fun _ => squeezes_S1x128x16x128_S128x16x128) o_disj o_cover (m ((c : Thread nD τ).loc cc0_scratch0))) $$ H0
  ihave H1 := (chop_back c cc0_scratch1 (fun a : Fin 8 => Rect.unit (s := S8x128x4096) ![a.val, 0, 0] S1x128x4096.size (s_inb a)) (fun _ _ => rfl) (fun _ => squeezes_S1x128x4096_S128x4096) s_disj s_cover (m ((c : Thread nD τ).loc cc0_scratch1))) $$ H1
  ihave H2 := (chop_back c cc0_scratch2 (fun b : Fin 2 => Rect.unit (s := S2x128x4096) ![b.val, 0, 0] S1x128x4096.size (d_inb b)) (fun _ _ => rfl) (fun _ => squeezes_S1x128x4096_S128x4096) d_disj d_cover (m ((c : Thread nD τ).loc cc0_scratch2))) $$ H2
  isplitl [H0]; · iexact H0
  isplitl [H1]; · iexact H1
  iexact H2

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl]
  unfold Φ₁ finish
  rw [unscopedSems0_eq]
  iintro ⟨HA, HS, HU, HL, HT, HB⟩
  ihave HU := (out_join m c) $$ HU
  ihave HS := (scratch_back m c) $$ HS
  ihave HL := (sems_back (F := F) c) $$ [HL HT]
  · isplitl [HL] <;> iassumption
  isplitl [HB HA HU]
  · isplitl [HB]; · iexact HB
    isplitl [HA] <;> iassumption
  isplitl [HL] <;> iassumption

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_O₀ c _ (by fin_cases w <;> fin_cases s <;> exact lv_none c 0 kind_zero)
    · exact mayWait_0 c _

/-- A buffer held whole reads its contents at the final memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine (show iprop((ℓ ↦{fullShare} f) ∗ SI s') ⊢ (_ : sProp 𝕄) from h).trans ?_
  refine (show iprop(⌜∀ i ∈ ({()} : Finset Unit), s'.mem.mem ℓ = f⌝ ∗ SI s') ⊢ (iprop(⌜s'.mem.mem ℓ = f⌝ ∗ SI s') : sProp 𝕄) from ?_)
  iintro ⟨%h, H⟩
  isplitr; · ipureintro; exact h () (Finset.mem_singleton_self _)
  iexact H

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ ∀ n, (uS c n).view.read (Elt F) (s.mem ((c : Thread nD τ).loc main_v1_0)) = rVal m c n

theorem finish_read (c : Dev nD) (s' : Phys nD τ sig (Elt F)) :
    iprop(finish m c ∗ emp ∗ SI s') ⊢ |={Set.univ}=> (iprop(⌜QY m c s'.mem⌝ ∗ SI s') : sProp 𝕄) := by
  unfold finish aPts
  iintro ⟨⟨Hu, HA, ⟨%g, %hg, HU⟩⟩, -, HSI⟩
  imod (Pipeline.unscopedSems0_read (X := unscopedSems0 c) (c := c) fupd_intro s') $$ [Hu HSI] with ⟨%h1, HSI⟩
  · isplitl [Hu] <;> iassumption
  ihave H := (read_one _ _ s') $$ [HA HSI]
  · isplitl [HA] <;> iassumption
  icases H with ⟨%h2, HSI⟩
  ihave H := (read_one _ _ s') $$ [HU HSI]
  · isplitl [HU] <;> iassumption
  icases H with ⟨%h3, HSI⟩
  imodintro
  isplitr
  · ipureintro
    refine ⟨h1, h2, fun n => ?_⟩
    rw [h3]; exact hg n
  iexact HSI

/-! ## The run -/

/-- The final memory: the arguments as they were and the chunks of each device's result at their values. -/
def Done (s : MemSt nD τ sig (Elt F)) : Prop :=
  ∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ ∀ n, (uS c n).view.read (Elt F) (s.mem ((c.tc : Thread nD τ).loc main_v1_0)) = rVal m c n

set_option maxRecDepth 8000 in
/-- The four devices' run, from any memory and for any float values. -/
theorem run_main : θ_run (defs (F := F)) (onTc (τ := τ) (main (F := F))) ⟨m, fun _ => 0, ρ⟩ (fun r => Done m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (show BI.own (((Emb.inl : Emb UB (UB × Counters)).trans embR) (initOf theCells theToks)) ⊢ (BI.own (ER (initOf theCells theToks)) : sProp 𝕄) from BI.Entails.refl _) $$ HX
      imod (fund_cells m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := phi1_exit m)
    (QY := QY m) (hY := finish_read m)
    (hQ := fun s h hs => ⟨fun c => ⟨(h c).2.2.2.1, ((h c).1 0).trans ((dats m 0 c).arrAt_in 0 rfl _), (h c).2.2.2.2⟩, sem_eq_zero hs fun c => (h c).2.2.1⟩)

end Cert.K
-- ==== Proof.Frames.lean ====
/-
# The programs' frames

The kernel as compiled and the kernel read over the extended reals have one text, so the one run serves both; the
reference has no kernel and no semaphore.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.K

open Idealize.ShloMosaic Idealize.ShloMosaic.TcCoe Idealize.SL.Sem

theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main (F := F) m ρ)

/-- The two programs' body tables are one, label by label. -/
theorem bodies_eq : @Cert.Kernel.defs₀ Bits _ _ = @Cert.KernelIdeal.defs₀ Bits _ _ := by
  unfold Cert.Kernel.defs₀ Cert.KernelIdeal.defs₀
  refine congrArg (Defs.onTc (τ := Cert.KernelIdeal.τ)) ?_
  funext l x
  match l, x with
  | ⟨0, _⟩, x => rfl
  | ⟨n + 1, h⟩, _ => exact absurd h (Nat.not_lt.2 (Nat.le_add_left _ _))
theorem defs_eq : @Cert.Kernel.defs Bits _ _ = @Cert.KernelIdeal.defs Bits _ _ := by
  unfold Cert.Kernel.defs Cert.KernelIdeal.defs
  exact congrArg (Pipeline.defs (τ := Cert.KernelIdeal.τ) (Cert.KernelIdeal.pcfgs (F := Bits))) bodies_eq

theorem frame_kernel : Cert.quiescent_Kernel := fun m ρ _ => by
  have h := frame_any (F := Bits) m ρ
  rw [← defs_eq] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.K
-- ==== Proof.Value.lean ====
/-
# What the devices end holding

Read at an index, at the ideal instance: each device's product over its own half of the contracted dimension, the sum
of the two halves that a chunk of the result is, and the reference's product over the whole dimension. Together they
make device `c`'s result block `c` of the reference's.
-/
module

public import proofs.«01_k».proof.Defs
public import proofs.«01_k».proof.Proof.Launch
public import proofs.«01_k».proof.Proof.Gen.ReferenceIdeal.Run
public import Idealize.ShloMosaic.Lib.Pointwise

@[expose] public section

noncomputable section

namespace Cert.K

open Cert.KernelIdeal Cert.KernelIdeal.Gen

open Idealize.ShloMosaic Idealize.ShloMosaic.TcCoe Idealize.SL.Sem

/-! ## The product's two halves -/

/-- `O`, `Wo` and the result on the whole. -/
abbrev OS : Shape := ⟨4, ![4, 1024, 32, 128]⟩
abbrev WS : Shape := ⟨2, ![4096, 4096]⟩
abbrev RS : Shape := ⟨3, ![4, 1024, 4096]⟩

variable (O : OS.Idx → Elt Ideal .f32) (W : WS.Idx → Elt Ideal .f32)

/-- The part of the product at `(b, r, j)` that heads `16 y` up to `16 y + 15` give. -/
def half (y : Fin 2) (b : Fin 4) (r : Fin 1024) (j : Fin 4096) : Elt Ideal .f32 :=
  ∑ k : Fin 2048, O (ix4 b r ⟨y.val * 16 + k.val / 128, by omega⟩ ⟨k.val % 128, by omega⟩) * W (ix2 ⟨y.val * 2048 + k.val, by omega⟩ j)

/-- The reference's result. -/
def prod : RS.Idx → Elt Ideal .f32 :=
  Host.dotGeneral (F := Ideal) (φ₁ := .f32) (φ₂ := .f32) Cert.ReferenceIdeal.dot_S4x1024x4096_S4096x4096_S4x1024x4096_2_0_01_1_n_n none
    (shapeCast _ O Cert.ReferenceIdeal.Gen.shapeCasts_S4x1024x32x128_S4x1024x4096) W

theorem prod_at (b : Fin 4) (r : Fin 1024) (j : Fin 4096) : prod O W (ix3 b r j) = half O W 0 b r j + half O W 1 b r j := by
  pointwise [prod]
  refine (Fin.sum_univ_add (a := 2048) (b := 2048) _).trans ?_
  refine congrArg₂ (· + ·) (Finset.sum_congr rfl fun k _ => ?_) (Finset.sum_congr rfl fun k _ => ?_)
  · refine congrArg₂ (· * ·) (congrArg O ?_) (congrArg W ?_)
    · have e : (⟨(Fin.castAdd 2048 k).val / 128, by simp; omega⟩ : Fin 32) = ⟨(0 : Fin 2).val * 16 + k.val / 128, by simp; omega⟩ := Fin.ext (by simp)
      exact congrArg (fun h => ix4 b r h ⟨k.val % 128, by omega⟩) e
    · have e : (Fin.castAdd 2048 k : Fin 4096) = ⟨(0 : Fin 2).val * 2048 + k.val, by simp; omega⟩ := Fin.ext (by simp)
      exact congrArg (fun h => ix2 h j) e
  · refine congrArg₂ (· * ·) (congrArg O ?_) (congrArg W ?_)
    · have e : (⟨(Fin.natAdd 2048 k).val / 128, by simp; omega⟩ : Fin 32) = ⟨(1 : Fin 2).val * 16 + k.val / 128, by simp; omega⟩ := Fin.ext (by simp; omega)
      have e' : (⟨(Fin.natAdd 2048 k).val % 128, by omega⟩ : Fin 128) = ⟨k.val % 128, by omega⟩ := Fin.ext (by simp; omega)
      exact congrArg₂ (fun h d => ix4 b r h d) e e'
    · have e : (Fin.natAdd 2048 k : Fin 4096) = ⟨(1 : Fin 2).val * 2048 + k.val, by simp; omega⟩ := Fin.ext (by simp; omega)
      exact congrArg (fun h => ix2 h j) e

/-! ## The chunks at an index -/

variable (m : (ℓ : Loc nD τ sig) → Buf (Elt Ideal) ℓ)

theorem oVal_at (c : Dev nD) (n : Fin 24) (r : Fin 128) (h : Fin 16) (d : Fin 128) (i : (⟨4, ![4,1024,16,128]⟩ : Shape).Idx)
    (h0 : (i 0).val = inOff c n 0) (h1 : (i 1).val = inOff c n 1 + r.val) (h2 : i 2 = h) (h3 : i 3 = d) :
    oVal m c n (ix3 r h d) = m (c.tc.loc main_arg0) i := by
  refine (congrFun (Memref.read_squeeze_slice aM (Rect.unit (s := S4x1024x16x128) (inOff c n) S1x128x16x128.size (inOff_inb c n)) (fun _ => rfl) squeezes_S1x128x16x128_S128x16x128 shapeCasts_S1x128x16x128_S128x16x128 _) _).trans ?_
  refine (shapeCast_dropUnit_apply (n := 3) ![128, 16, 128] _ _ _).trans ?_
  refine congrArg (m (c.tc.loc main_arg0)) (funext fun a => Fin.ext ?_)
  match a with
  | ⟨0, _⟩ => exact h0.symm
  | ⟨1, _⟩ => exact (congrArg (inOff c n 1 + ·) (Nat.one_mul _)).trans h1.symm
  | ⟨2, _⟩ => exact ((Nat.zero_add _).trans (Nat.one_mul _)).trans (congrArg Fin.val h2).symm
  | ⟨3, _⟩ => exact ((Nat.zero_add _).trans (Nat.one_mul _)).trans (congrArg Fin.val h3).symm

theorem u_at (f : (⟨3, ![4,512,4096]⟩ : Shape).Idx → Elt Ideal .f32) (c : Dev nD) (n : Fin 16) (r : Fin 128) (k : Fin 4096)
    (i : (⟨3, ![4,512,4096]⟩ : Shape).Idx) (h0 : (i 0).val = outOff c n 0) (h1 : (i 1).val = outOff c n 1 + r.val) (h2 : i 2 = k) :
    (uS c n).view.read (Elt Ideal) f (ix2 r k) = f i := by
  refine (congrFun (Memref.read_squeeze_slice uM (Rect.unit (s := S4x512x4096) (outOff c n) S1x128x4096.size (outOff_inb c n)) (fun _ => rfl) squeezes_S1x128x4096_S128x4096 shapeCasts_S1x128x4096_S128x4096 _) _).trans ?_
  refine (shapeCast_dropUnit_apply (n := 2) ![128, 4096] _ _ _).trans ?_
  refine congrArg f (funext fun a => Fin.ext ?_)
  match a with
  | ⟨0, _⟩ => exact h0.symm
  | ⟨1, _⟩ => exact (congrArg (outOff c n 1 + ·) (Nat.one_mul _)).trans h1.symm
  | ⟨2, _⟩ => exact ((Nat.zero_add _).trans (Nat.one_mul _)).trans (congrArg Fin.val h2).symm

theorem wVal_at (c : Dev nD) (k : Fin 2048) (j : Fin 4096) : wVal m c (ix2 k j) = m (c.tc.loc main_arg1) (ix2 k j) := by
  refine congrArg (m (c.tc.loc main_arg1)) (funext fun a => Fin.ext ?_)
  match a with
  | ⟨0, _⟩ => exact (congrArg (· + 1 * k.val) (Nat.zero_mul _)).trans ((Nat.zero_add _).trans (Nat.one_mul _))
  | ⟨1, _⟩ => exact (congrArg (· + 1 * j.val) (Nat.zero_mul _)).trans ((Nat.zero_add _).trans (Nat.one_mul _))

/-! ## A device's product is its half -/

/-- Device `d`'s arguments are its blocks of `O` and `Wo`. -/
def Laid : Prop := ∀ d : Dev nD,
  m (d.tc.loc main_arg0) = Layout.blockN ⟨4, ![4, 1024, 16, 128]⟩ OS (Layout.meshBlock [2, 2] ![[], [], [1], []] d) O
  ∧ m (d.tc.loc main_arg1) = Layout.blockN ⟨2, ![2048, 4096]⟩ WS (Layout.meshBlock [2, 2] ![[1], []] d) W

/-- The coordinate along "y". -/
def yc (d : Dev nD) : Fin 2 := ⟨d.val % 2, by omega⟩

theorem lin_y : ∀ d : Dev nD, Layout.meshLin [2, 2] d.val [1] = (yc d).val := by decide
theorem lin_none (d : Dev nD) : Layout.meshLin [2, 2] d.val [] = 0 := rfl

variable {O W m}

theorem part_at (hm : Laid O W m) (d : Dev nD) (n : Fin 24) (r : Fin 128) (j : Fin 4096) (b : Fin 4) (R : Fin 1024)
    (hb : b.val = inOff d n 0) (hR : R.val = inOff d n 1 + r.val) :
    ∑ k : Fin 2048, oVal m d n (ix3 r ⟨k.val / 128, by omega⟩ ⟨k.val % 128, by omega⟩) * wVal m d (ix2 k j) = half O W (yc d) b R j := by
  refine Finset.sum_congr rfl fun k _ => congrArg₂ (· * ·) ?_ ?_
  · rw [oVal_at m d n r ⟨k.val / 128, by omega⟩ ⟨k.val % 128, by omega⟩ (ix4 b R ⟨k.val / 128, by omega⟩ ⟨k.val % 128, by omega⟩) hb hR rfl rfl, (hm d).1]
    refine congrArg O (funext fun a => Fin.ext ?_)
    match a with
    | ⟨0, _⟩ => exact (congrArg (· + b.val) (Nat.zero_mul _)).trans (Nat.zero_add _)
    | ⟨1, _⟩ => exact (congrArg (· + R.val) (Nat.zero_mul _)).trans (Nat.zero_add _)
    | ⟨2, _⟩ => exact congrArg (· * 16 + k.val / 128) (lin_y d)
    | ⟨3, _⟩ => exact (congrArg (· + k.val % 128) (Nat.zero_mul _)).trans (Nat.zero_add _)
  · rw [wVal_at m d k j, (hm d).2]
    refine congrArg W (funext fun a => Fin.ext ?_)
    match a with
    | ⟨0, _⟩ => exact congrArg (· * 2048 + k.val) (lin_y d)
    | ⟨1, _⟩ => exact (congrArg (· + j.val) (Nat.zero_mul _)).trans (Nat.zero_add _)

theorem sVal_half (hm : Laid O W m) (d : Dev nD) (a : Fin 8) (r : Fin 128) (j : Fin 4096) (b : Fin 4) (R : Fin 1024)
    (hb : b.val = inOff d (ch 0 a) 0) (hR : R.val = inOff d (ch 0 a) 1 + r.val) : sVal m d a (ix2 r j) = half O W (yc d) b R j := by
  pointwise [sVal, dn3, up4, k0_pay4]
  exact part_at hm d (ch 0 a) r j b R hb hR

theorem rVal1_half (hm : Laid O W m) (c : Dev nD) (a : Fin 8) (r : Fin 128) (j : Fin 4096) (b : Fin 4) (R : Fin 1024)
    (hb : b.val = inOff c (ch 1 a) 0) (hR : R.val = inOff c (ch 1 a) 1 + r.val)
    (hb' : b.val = inOff (py c) (ch 0 a) 0) (hR' : R.val = inOff (py c) (ch 0 a) 1 + r.val) :
    rVal1 m c a (ix2 r j) = half O W (yc (py c)) b R j + half O W (yc c) b R j := by
  pointwise [rVal1, dn3, up4, up3, k0_pay2, k0_pay1]
  exact congrArg₂ (· + ·) (sVal_half hm (py c) a r j b R hb' hR') (part_at hm c (ch 1 a) r j b R hb hR)

theorem rVal2_half (hm : Laid O W m) (c : Dev nD) (a : Fin 8) (r : Fin 128) (j : Fin 4096) (b : Fin 4) (R : Fin 1024)
    (hb : b.val = inOff c (ch 2 a) 0) (hR : R.val = inOff c (ch 2 a) 1 + r.val)
    (hb' : b.val = inOff (py (px c)) (ch 0 a) 0) (hR' : R.val = inOff (py (px c)) (ch 0 a) 1 + r.val) :
    rVal2 m c a (ix2 r j) = half O W (yc (py (px c))) b R j + half O W (yc c) b R j := by
  pointwise [rVal2, dn3, up4, up3, k0_pay3]
  exact congrArg₂ (· + ·) (sVal_half hm (py (px c)) a r j b R hb' hR') (part_at hm c (ch 2 a) r j b R hb hR)

/-! ## A chunk of the result is a chunk of the reference's block -/

/-- The two halves make the product, in either order. -/
theorem halves (y y' : Fin 2) (h : y ≠ y') (b : Fin 4) (R : Fin 1024) (j : Fin 4096) :
    half O W y b R j + half O W y' b R j = prod O W (ix3 b R j) := by
  rw [prod_at]
  obtain ⟨rfl, rfl⟩ | ⟨rfl, rfl⟩ : (y = 0 ∧ y' = 1) ∨ (y = 1 ∧ y' = 0) := by omega
  · rfl
  · exact add_comm (G := EReal) _ _

theorem yc_py : ∀ c : Dev nD, yc (py c) ≠ yc c := by decide
theorem yc_pyx : ∀ c : Dev nD, yc (py (px c)) ≠ yc c := by decide

/-- Where the chunks of a device and of its partner begin, against the chunk of the result. -/
theorem rows1 : ∀ (c : Dev nD) (n : Fin 16) (h : n.val < 8),
    inOff c (ch 1 ⟨n.val, h⟩) 0 = outOff c n 0 ∧ inOff c (ch 1 ⟨n.val, h⟩) 1 = (yc c).val * 512 + outOff c n 1
    ∧ inOff (py c) (ch 0 ⟨n.val, h⟩) 0 = outOff c n 0 ∧ inOff (py c) (ch 0 ⟨n.val, h⟩) 1 = (yc c).val * 512 + outOff c n 1 := by decide +kernel
theorem rows2 : ∀ (c : Dev nD) (n : Fin 16) (h : ¬ n.val < 8),
    inOff c (ch 2 ⟨n.val - 8, by omega⟩) 0 = outOff c n 0 ∧ inOff c (ch 2 ⟨n.val - 8, by omega⟩) 1 = (yc c).val * 512 + outOff c n 1
    ∧ inOff (py (px c)) (ch 0 ⟨n.val - 8, by omega⟩) 0 = outOff c n 0 ∧ inOff (py (px c)) (ch 0 ⟨n.val - 8, by omega⟩) 1 = (yc c).val * 512 + outOff c n 1 := by decide +kernel

theorem rVal_prod (hm : Laid O W m) (c : Dev nD) (n : Fin 16) (r : Fin 128) (j : Fin 4096) (b : Fin 4) (R : Fin 1024)
    (hb : b.val = outOff c n 0) (hR : R.val = (yc c).val * 512 + (outOff c n 1 + r.val)) : rVal m c n (ix2 r j) = prod O W (ix3 b R j) := by
  by_cases h : n.val < 8
  · obtain ⟨e0, e1, e0', e1'⟩ := rows1 c n h
    rw [rVal, dif_pos h, rVal1_half hm c ⟨n.val, h⟩ r j b R (hb.trans e0.symm) (by rw [hR, e1, Nat.add_assoc]) (hb.trans e0'.symm) (by rw [hR, e1', Nat.add_assoc])]
    exact halves _ _ (yc_py c) b R j
  · obtain ⟨e0, e1, e0', e1'⟩ := rows2 c n h
    rw [rVal, dif_neg h, rVal2_half hm c ⟨n.val - 8, by omega⟩ r j b R (hb.trans e0.symm) (by rw [hR, e1, Nat.add_assoc]) (hb.trans e0'.symm) (by rw [hR, e1', Nat.add_assoc])]
    exact halves _ _ (yc_pyx c) b R j

/-- An array whose every chunk is the devices' sum is block `c` of the reference's result. -/
theorem out_block (hm : Laid O W m) (c : Dev nD) (f : (⟨3, ![4, 512, 4096]⟩ : Shape).Idx → Elt Ideal .f32)
    (hf : ∀ n, (uS c n).view.read (Elt Ideal) f = rVal m c n) :
    f = Layout.blockN ⟨3, ![4, 512, 4096]⟩ RS (Layout.meshBlock [2, 2] ![[], [1], []] c) (prod O W) := by
  funext i
  obtain ⟨hn, h0, h1, h2⟩ := outAt_spec c (i 0).val (i 1).val (i 0).isLt (i 1).isLt
  have hi : (i 1).val < 512 := (i 1).isLt
  have hy := (yc c).isLt
  rw [← out_one c ⟨_, hn⟩] at h1 h2
  refine (u_at f c ⟨_, hn⟩ ⟨(i 1).val - outOff c ⟨_, hn⟩ 1, by omega⟩ (i 2) i h0 (by simp only []; omega) rfl).symm.trans ?_
  rw [hf, rVal_prod hm c ⟨_, hn⟩ ⟨(i 1).val - outOff c ⟨_, hn⟩ 1, by omega⟩ (i 2) (i 0) ⟨(yc c).val * 512 + (i 1).val, by omega⟩ h0 (by simp only []; omega)]
  refine congrArg (prod O W) (funext fun a => Fin.ext ?_)
  match a with
  | ⟨0, _⟩ => exact ((congrArg (· + (i 0).val) (Nat.zero_mul _)).trans (Nat.zero_add _)).symm
  | ⟨1, _⟩ => exact (congrArg (· * 512 + (i 1).val) (lin_y c)).symm
  | ⟨2, _⟩ => exact ((congrArg (· + (i 2).val) (Nat.zero_mul _)).trans (Nat.zero_add _)).symm

/-! ## The claim -/

theorem algebraic : Cert.algebraic_KernelIdeal_ReferenceIdeal := by
  intro m g m' g' _ hm
  refine ⟨prod (m' ((0 : Dev ReferenceIdeal.nD).tc.loc ReferenceIdeal.main_arg0)) (m' ((0 : Dev ReferenceIdeal.nD).tc.loc ReferenceIdeal.main_arg1)), ?_, ?_⟩
  · exact (θ_run _ _ _).mono (fun r h c => ⟨out_block hm c _ (h.1 c).2.2, (h.1 c).1, (h.1 c).2.1⟩) (run_main (F := Ideal) m g)
  · exact (θ_run _ _ _).mono (fun r h => h 0) (Cert.ReferenceIdeal.Value.run (F := Ideal) m' g')

end Cert.K
-- ==== Proof.lean ====
/-
# The claim

Put together from the modules under Proof/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.K.frame_kernel, Cert.K.frame_ideal, Cert.K.frame_reference, trivial, Cert.K.algebraic⟩

end Cert.Proof
